-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x64x64x256 : Shape := ⟨4, ![32, 64, 64, 256]⟩
abbrev S_ : Shape := ⟨0, ![]⟩

class Facts : Prop where
  bcast_S_S32x64x64x256 : S_.BroadcastsInDim S32x64x64x256 (![] : Fin 0 → Fin S32x64x64x256.rank)
  reducesTo_S32x64x64x256_S_d0_1_2_3 : S32x64x64x256.ReducesTo [0, 1, 2, 3] S_
  h_S_ : 0 < S_.numel

variable [Facts]

def fn {F : FTy → Type} [FloatOps F] (main_arg0 : FVec F S32x64x64x256 .f32) : IVec S_ 1 :=
  let main_v0 : FVec F S32x64x64x256 .f32 := Host.absf main_arg0
  let main_cst : FVec F S_ .f32 := constant S_ .f32 0x7F800000#32
  let main_v1 : FVec F S32x64x64x256 .f32 := broadcastInDim S32x64x64x256 ![] bcast_S_S32x64x64x256 main_cst
  let main_v2 : IVec S32x64x64x256 1 := cmpf .olt main_v0 main_v1
  let main_c : IVec S_ 1 := constantI S_ 1 1#1
  let main_v3 : IVec S_ 1 := (fun x v => Host.reduce IntOp.andi x v reducesTo_S32x64x64x256_S_d0_1_2_3 h_S_) main_v2 main_c
  main_v3
-- ==== Kernel.lean ====
abbrev S32x64x64x256 : Shape := ⟨4, ![32, 64, 64, 256]⟩
abbrev S131072x256 : Shape := ⟨2, ![131072, 256]⟩
abbrev S4096x256 : Shape := ⟨2, ![4096, 256]⟩
abbrev S256x256 : Shape := ⟨2, ![256, 256]⟩
abbrev S1x256 : Shape := ⟨2, ![1, 256]⟩
abbrev S256x512 : Shape := ⟨2, ![256, 512]⟩
abbrev S256 : Shape := ⟨1, ![256]⟩
abbrev S256x1 : Shape := ⟨2, ![256, 1]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S1x1 : Shape := ⟨2, ![1, 1]⟩
abbrev S128x512 : Shape := ⟨2, ![128, 512]⟩
abbrev S256x128 : Shape := ⟨2, ![256, 128]⟩

abbrev nBuf : Space → Nat
  | .hbm => 4
  | .vmem => 10
  | .smem => 0
  | _ => 0

abbrev bufTy : (tb : Table) → Fin (tcTables nBuf tb) → BufTy
  | .hbm, ⟨0, _⟩ => ⟨S32x64x64x256, .f32⟩
  | .hbm, ⟨1, _⟩ => ⟨S131072x256, .f32⟩
  | .hbm, ⟨2, _⟩ => ⟨S131072x256, .f32⟩
  | .hbm, ⟨3, _⟩ => ⟨S32x64x64x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S256x512, .f32⟩
  | .local _ .vmem, ⟨8, _⟩ => ⟨S256x256, .f32⟩
  | .local _ .vmem, ⟨9, _⟩ => ⟨S1x256, .f32⟩
  | _, _ => ⟨S32x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![65], ![false]⟩

def k0_cond4 (i : grid0.Coords) : BitVec 1 :=
  let arg0 : BitVec 32 := BitVec.ofNat 32 (i 0).val
  let c32_i32_4 : BitVec 32 := 32#32
  let v9 : BitVec 1 := Scalar.cmpi .sgt arg0 c32_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c32_i32 : BitVec 32 := 32#32
  let v0 : BitVec 1 := Scalar.cmpi .slt arg0 c32_i32
  let c33_i32 : BitVec 32 := 33#32
  let v1 : BitVec 32 := Scalar.subi arg0 c33_i32
  let c0_i32 : BitVec 32 := 0#32
  let v2 : BitVec 32 := Scalar.maxsi v1 c0_i32
  let v3 : BitVec 32 := Scalar.select v0 arg0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c33_i32 : BitVec 32 := 33#32
  let v0 : BitVec 32 := Scalar.subi arg0 c33_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x64x64x256 : Shape := ⟨4, ![32, 64, 64, 256]⟩
abbrev S256x32x64x64 : Shape := ⟨4, ![256, 32, 64, 64]⟩
abbrev S256x131072 : Shape := ⟨2, ![256, 131072]⟩
abbrev S_ : Shape := ⟨0, ![]⟩
abbrev S256 : Shape := ⟨1, ![256]⟩
abbrev S256x1 : Shape := ⟨2, ![256, 1]⟩
abbrev S131072x256 : Shape := ⟨2, ![131072, 256]⟩
abbrev S256x256 : Shape := ⟨2, ![256, 256]⟩
abbrev S1x256 : Shape := ⟨2, ![1, 256]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S32x64x64x256, .f32⟩
  | 1 => ⟨S256x32x64x64, .f32⟩
  | 2 => ⟨S256x131072, .f32⟩
  | 3 => ⟨S_, .f32⟩
  | 4 => ⟨S256, .f32⟩
  | 5 => ⟨S256x1, .f32⟩
  | 6 => ⟨S_, .f32⟩
  | 7 => ⟨S256x1, .f32⟩
  | 8 => ⟨S256x1, .f32⟩
  | 9 => ⟨S256x131072, .f32⟩
  | 10 => ⟨S256x131072, .f32⟩
  | 11 => ⟨S131072x256, .f32⟩
  | 12 => ⟨S256x256, .f32⟩
  | 13 => ⟨S_, .f32⟩
  | 14 => ⟨S_, .f32⟩
  | 15 => ⟨S_, .f32⟩
  | 16 => ⟨S256x256, .f32⟩
  | 17 => ⟨S256x256, .f32⟩
  | 18 => ⟨S256x256, .i32⟩
  | 19 => ⟨S256x256, .i32⟩
  | 20 => ⟨S_, .i32⟩
  | 21 => ⟨S256x256, .i32⟩
  | 22 => ⟨S256x256, .i32⟩
  | 23 => ⟨S256x256, .i1⟩
  | 24 => ⟨S256x256, .f32⟩
  | 25 => ⟨S_, .f32⟩
  | 26 => ⟨S256x256, .f32⟩
  | 27 => ⟨S256x256, .f32⟩
  | 28 => ⟨S_, .f32⟩
  | 29 => ⟨S256x256, .f32⟩
  | 30 => ⟨S256x256, .f32⟩
  | 31 => ⟨S256x256, .f32⟩
  | 32 => ⟨S256x1, .i32⟩
  | 33 => ⟨S_, .f32⟩
  | 34 => ⟨S256x256, .f32⟩
  | 35 => ⟨S_, .f32⟩
  | 36 => ⟨S256x256, .f32⟩
  | 37 => ⟨S_, .i32⟩
  | 38 => ⟨S_, .i32⟩
  | 39 => ⟨S256x256, .f32⟩
  | 40 => ⟨S256x1, .i32⟩
  | 41 => ⟨S256x256, .f32⟩
  | 42 => ⟨S_, .i32⟩
  | 43 => ⟨S_, .i32⟩
  | 44 => ⟨S256x256, .f32⟩
  | 45 => ⟨S256x256, .f32⟩
  | 46 => ⟨S_, .i32⟩
  | 47 => ⟨S_, .i1⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S256x1, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S1x256, .f32⟩
  | 66 => ⟨S256x1, .f32⟩
  | 67 => ⟨S256x1, .f32⟩
  | 68 => ⟨S256x1, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S1x1, .f32⟩
  | 77 => ⟨S1x1, .f32⟩
  | 78 => ⟨S256x1, .f32⟩
  | 79 => ⟨S256x1, .f32⟩
  | 80 => ⟨S_, .i32⟩
  | 81 => ⟨S256x1, .i32⟩
  | 82 => ⟨S256x1, .i1⟩
  | 83 => ⟨S_, .f32⟩
  | 84 => ⟨S256x1, .f32⟩
  | 85 => ⟨S256x1, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S256x256, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1x256, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x256, .f32⟩
  | 110 => ⟨S1x256, .f32⟩
  | 111 => ⟨S1x256, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S1x1, .f32⟩
  | 125 => ⟨S1x256, .f32⟩
  | 126 => ⟨S1x256, .f32⟩
  | 127 => ⟨S_, .i32⟩
  | _ => ⟨S32x64x64x256, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S256x256, .f32⟩
  | 7 => ⟨S_, .i32⟩
  | 8 => ⟨S_, .i32⟩
  | 9 => ⟨S256x131072, .f32⟩
  | 10 => ⟨S256x32x64x64, .f32⟩
  | 11 => ⟨S32x64x64x256, .f32⟩
  | _ => ⟨S32x64x64x256, .f32⟩

abbrev hbmTy (i : Nat) : BufTy := match i / 128 with
  | 0 => hbmTy0_0 i
  | 1 => hbmTy0_1 i
  | _ => ⟨S32x64x64x256, .f32⟩

abbrev bufTy : (tb : Table) → Fin (tcTables nBuf tb) → BufTy
  | .hbm, ⟨i, _⟩ => hbmTy i
  | _, _ => ⟨S32x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_c_7 : Ref sig .tc := ⟨.hbm, 37, rfl⟩
abbrev main_c_8 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev main_v27_5 : Ref sig .tc := ⟨.hbm, 44, rfl⟩
abbrev main_v27_6 : Ref sig .tc := ⟨.hbm, 45, rfl⟩
abbrev main_while0c_c_15 : Ref sig .tc := ⟨.hbm, 46, rfl⟩
abbrev main_while0c_v31 : Ref sig .tc := ⟨.hbm, 47, rfl⟩
abbrev main_while0b_c_15 : Ref sig .tc := ⟨.hbm, 48, rfl⟩
abbrev main_while0b_v31 : Ref sig .tc := ⟨.hbm, 49, rfl⟩
abbrev main_while0b_c_16 : Ref sig .tc := ⟨.hbm, 50, rfl⟩
abbrev main_while0b_v32 : Ref sig .tc := ⟨.hbm, 51, rfl⟩
abbrev main_while0b_v33 : Ref sig .tc := ⟨.hbm, 52, rfl⟩
abbrev main_while0b_c_17 : Ref sig .tc := ⟨.hbm, 53, rfl⟩
abbrev main_while0b_v34 : Ref sig .tc := ⟨.hbm, 54, rfl⟩
abbrev main_while0b_v35 : Ref sig .tc := ⟨.hbm, 55, rfl⟩
abbrev main_while0b_c_18 : Ref sig .tc := ⟨.hbm, 56, rfl⟩
abbrev main_while0b_v36 : Ref sig .tc := ⟨.hbm, 57, rfl⟩
abbrev main_while0b_c_19 : Ref sig .tc := ⟨.hbm, 58, rfl⟩
abbrev main_while0b_v37 : Ref sig .tc := ⟨.hbm, 59, rfl⟩
abbrev main_while0b_v38 : Ref sig .tc := ⟨.hbm, 60, rfl⟩
abbrev main_while0b_c_20 : Ref sig .tc := ⟨.hbm, 61, rfl⟩
abbrev main_while0b_v39 : Ref sig .tc := ⟨.hbm, 62, rfl⟩
abbrev main_while0b_v40 : Ref sig .tc := ⟨.hbm, 63, rfl⟩
abbrev main_while0b_c_21 : Ref sig .tc := ⟨.hbm, 64, rfl⟩
abbrev main_while0b_v41 : Ref sig .tc := ⟨.hbm, 65, rfl⟩
abbrev main_while0b_v42 : Ref sig .tc := ⟨.hbm, 66, rfl⟩
abbrev main_while0b_v43 : Ref sig .tc := ⟨.hbm, 67, rfl⟩
abbrev main_while0b_v44 : Ref sig .tc := ⟨.hbm, 68, rfl⟩
abbrev main_while0b_c_22 : Ref sig .tc := ⟨.hbm, 69, rfl⟩
abbrev main_while0b_v45 : Ref sig .tc := ⟨.hbm, 70, rfl⟩
abbrev main_while0b_v46 : Ref sig .tc := ⟨.hbm, 71, rfl⟩
abbrev main_while0b_c_23 : Ref sig .tc := ⟨.hbm, 72, rfl⟩
abbrev main_while0b_v47 : Ref sig .tc := ⟨.hbm, 73, rfl⟩
abbrev main_while0b_v48 : Ref sig .tc := ⟨.hbm, 74, rfl⟩
abbrev main_while0b_c_24 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_cst_25 : Ref sig .tc := ⟨.hbm, 83, rfl⟩
abbrev main_while0b_v56 : Ref sig .tc := ⟨.hbm, 84, rfl⟩
abbrev main_while0b_v57 : Ref sig .tc := ⟨.hbm, 85, rfl⟩
abbrev main_while0b_c_26 : Ref sig .tc := ⟨.hbm, 86, rfl⟩
abbrev main_while0b_v58 : Ref sig .tc := ⟨.hbm, 87, rfl⟩
abbrev main_while0b_v59 : Ref sig .tc := ⟨.hbm, 88, rfl⟩
abbrev main_while0b_c_27 : Ref sig .tc := ⟨.hbm, 89, rfl⟩
abbrev main_while0b_v60 : Ref sig .tc := ⟨.hbm, 90, rfl⟩
abbrev main_while0b_v61 : Ref sig .tc := ⟨.hbm, 91, rfl⟩
abbrev main_while0b_c_28 : Ref sig .tc := ⟨.hbm, 92, rfl⟩
abbrev main_while0b_v62 : Ref sig .tc := ⟨.hbm, 93, rfl⟩
abbrev main_while0b_c_29 : Ref sig .tc := ⟨.hbm, 94, rfl⟩
abbrev main_while0b_v63 : Ref sig .tc := ⟨.hbm, 95, rfl⟩
abbrev main_while0b_v64 : Ref sig .tc := ⟨.hbm, 96, rfl⟩
abbrev main_while0b_c_30 : Ref sig .tc := ⟨.hbm, 97, rfl⟩
abbrev main_while0b_v65 : Ref sig .tc := ⟨.hbm, 98, rfl⟩
abbrev main_while0b_v66 : Ref sig .tc := ⟨.hbm, 99, rfl⟩
abbrev main_while0b_c_31 : Ref sig .tc := ⟨.hbm, 100, rfl⟩
abbrev main_while0b_v67 : Ref sig .tc := ⟨.hbm, 101, rfl⟩
abbrev main_while0b_c_32 : Ref sig .tc := ⟨.hbm, 102, rfl⟩
abbrev main_while0b_v68 : Ref sig .tc := ⟨.hbm, 103, rfl⟩
abbrev main_while0b_v69 : Ref sig .tc := ⟨.hbm, 104, rfl⟩
abbrev main_while0b_c_33 : Ref sig .tc := ⟨.hbm, 105, rfl⟩
abbrev main_while0b_v70 : Ref sig .tc := ⟨.hbm, 106, rfl⟩
abbrev main_while0b_v71 : Ref sig .tc := ⟨.hbm, 107, rfl⟩
abbrev main_while0b_c_34 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_c_35 : Ref sig .tc := ⟨.hbm, 112, rfl⟩
abbrev main_while0b_v75 : Ref sig .tc := ⟨.hbm, 113, rfl⟩
abbrev main_while0b_v76 : Ref sig .tc := ⟨.hbm, 114, rfl⟩
abbrev main_while0b_c_36 : Ref sig .tc := ⟨.hbm, 115, rfl⟩
abbrev main_while0b_v77 : Ref sig .tc := ⟨.hbm, 116, rfl⟩
abbrev main_while0b_v78 : Ref sig .tc := ⟨.hbm, 117, rfl⟩
abbrev main_while0b_c_37 : Ref sig .tc := ⟨.hbm, 118, rfl⟩
abbrev main_while0b_v79 : Ref sig .tc := ⟨.hbm, 119, rfl⟩
abbrev main_while0b_v80 : Ref sig .tc := ⟨.hbm, 120, rfl⟩
abbrev main_while0b_c_38 : Ref sig .tc := ⟨.hbm, 121, rfl⟩
abbrev main_while0b_v81 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_v85 : Ref sig .tc := ⟨.hbm, 126, rfl⟩
abbrev main_while0b_c_39 : Ref sig .tc := ⟨.hbm, 127, rfl⟩
abbrev main_while0b_v86 : Ref sig .tc := ⟨.hbm, 128, rfl⟩
abbrev main_while0b_v87 : Ref sig .tc := ⟨.hbm, 129, rfl⟩
abbrev main_while0b_c_40 : Ref sig .tc := ⟨.hbm, 130, rfl⟩
abbrev main_while0b_v88 : Ref sig .tc := ⟨.hbm, 131, rfl⟩
abbrev main_while0b_v89 : Ref sig .tc := ⟨.hbm, 132, rfl⟩
abbrev main_while0b_c_41 : Ref sig .tc := ⟨.hbm, 133, rfl⟩
abbrev main_while0b_v90 : Ref sig .tc := ⟨.hbm, 134, rfl⟩
abbrev main_while0b_c_42 : Ref sig .tc := ⟨.hbm, 135, rfl⟩
abbrev main_while0b_v91 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩

abbrev nD : Nat := 1
abbrev τ : Topo := Topo.v7x

variable {F : FTy → Type} [FloatOps F]

abbrev main_while0_count : Scf.Loop 32 := ⟨0#32, 256#32, 1#32⟩
-- ==== Proof.SameProgram.lean ====
/- The kernel and its idealization are one program text: a run of the one at the words is a run of the other. -/
module

public import proofs.«01_k».proof.Defs
public import proofs.«01_k».proof.Proof.Gen.Kernel
public import proofs.«01_k».proof.Proof.Gen.KernelIdeal
public import Idealize.ShloMosaic.Lib.Tactic

@[expose] public section

noncomputable section

namespace Cert.Whiten

open Idealize.ShloMosaic Idealize.SL.Sem

/-- The idealization's own text, run at the words: it ends, the argument as it was, every semaphore at zero. -/
def QuietAtWords : Prop :=
  ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0)

theorem same_text : Cert.quiescent_Kernel (hKernel := Cert.Kernel.Gen.facts) = QuietAtWords := by
  sl_kernel_rfl

end Cert.Whiten

end
-- ==== Proof.Setup.lean ====
/- The four kinds of grid point of the fused whitening kernel and the buffers its body is handed: the conditions of
   the body's four branches as facts about the point's number, the staging and scratch memrefs, and the scratch
   part of the region's entry invariant spelt buffer by buffer. -/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body zeroes the two accumulators. -/
abbrev isFirst (i : grid0.Coords) : Prop :=
  (Scalar.cmpi .ne (Scalar.extui (Scalar.cmpi .eq (BitVec.ofNat 32 (i 0).val) 0#32)) 0#32) = 1#1
/-- The body adds its block to the accumulators. -/
abbrev isAcc (i : grid0.Coords) : Prop :=
  (Scalar.cmpi .ne (Scalar.extui (Scalar.cmpi .slt (BitVec.ofNat 32 (i 0).val) 32#32)) 0#32) = 1#1
/-- The body factors the covariance. -/
abbrev isFactor (i : grid0.Coords) : Prop :=
  (Scalar.cmpi .ne (Scalar.extui (Scalar.cmpi .eq (BitVec.ofNat 32 (i 0).val) 32#32)) 0#32) = 1#1
/-- The body whitens its block. -/
abbrev isWhiten (i : grid0.Coords) : Prop := k0_cond4 i = 1#1

theorem isFirst_iff : ∀ t : Fin cfg0.N, isFirst (grid0.coords t) ↔ t.val = 0 :=
  (by decide +kernel : ∀ t : Fin grid0.N, isFirst (grid0.coords t) ↔ t.val = 0)
theorem isAcc_iff : ∀ t : Fin cfg0.N, isAcc (grid0.coords t) ↔ t.val < 32 :=
  (by decide +kernel : ∀ t : Fin grid0.N, isAcc (grid0.coords t) ↔ t.val < 32)
theorem isFactor_iff : ∀ t : Fin cfg0.N, isFactor (grid0.coords t) ↔ t.val = 32 :=
  (by decide +kernel : ∀ t : Fin grid0.N, isFactor (grid0.coords t) ↔ t.val = 32)
theorem isWhiten_iff : ∀ t : Fin cfg0.N, isWhiten (grid0.coords t) ↔ 32 < t.val :=
  (by decide +kernel : ∀ t : Fin grid0.N, isWhiten (grid0.coords t) ↔ 32 < t.val)

/-- The output's window is left alone exactly at the points that do not whiten. -/
theorem idle_out : ∀ t : Fin cfg0.N, cfg0.idle 1 (grid0.coords t) = decide (t.val ≤ 32) :=
  (by decide +kernel : ∀ t : Fin grid0.N, idle0 1 (grid0.coords t) = decide (t.val ≤ 32))
/-- The output block is written back only after a whitening point. -/
theorem flush_out : ∀ t : Fin cfg0.N, t.val ≤ 32 → (cfg0.win 1).flush t = false :=
  (by decide +kernel : ∀ t : Fin grid0.N, t.val ≤ 32 → win0_1.flush t = false)

/-- The staging memrefs of the two windows at a point, and the six scratch buffers. -/
abbrev inM (t : Fin cfg0.N) : Memref sig .tc .vmem S4096x256 .f32 := win0_0.stage (cfg0.slots t 0)
abbrev outM (t : Fin cfg0.N) : Memref sig .tc .vmem S4096x256 .f32 := win0_1.stage (cfg0.slots t 1)
abbrev gramM : Memref sig .tc .vmem S256x256 .f32 := Memref.whole cc0_scratch0
abbrev sumM : Memref sig .tc .vmem S1x256 .f32 := Memref.whole cc0_scratch1
abbrev covM : Memref sig .tc .vmem S256x256 .f32 := Memref.whole cc0_scratch2
abbrev uwM : Memref sig .tc .vmem S256x512 .f32 := Memref.whole cc0_scratch3
abbrev wtM : Memref sig .tc .vmem S256x256 .f32 := Memref.whole cc0_scratch4
abbrev biasM : Memref sig .tc .vmem S1x256 .f32 := Memref.whole cc0_scratch5

/-- The entry invariant: the six scratch buffers at some contents, and the generator register. -/
theorem entry_eq (c : Dev nD) :
    (Pipeline.ΦA spec0 c : sProp 𝕄)
      = iprop(iprop((∃ d, owns (c : Thread nD τ) gramM fullShare d) ∗ (∃ d, owns (c : Thread nD τ) sumM fullShare d) ∗ (∃ d, owns (c : Thread nD τ) covM fullShare d) ∗ (∃ d, owns (c : Thread nD τ) uwM fullShare d) ∗ (∃ d, owns (c : Thread nD τ) wtM fullShare d) ∗ (∃ d, owns (c : Thread nD τ) biasM fullShare d)) ∗ (∃ r, prngReg c r)) := by
  unfold Pipeline.ΦA; rw [scopedRest0_eq]; simp only [gramM, sumM, covM, uwM, wtM, biasM, owns_whole]; try rfl

/-- Contents written last through a rectangle of the whole shape read back as what was written. -/
theorem read_writes_last {sg : RefSig} {κ : Kind} {sp : Space} {S : Shape} {e : EltTy}
    (v : View sg κ sp S e) (f : v.ty.Contents (Elt F)) {off : Fin S.rank → Nat}
    (inb : ∀ a, off a + S.size a ≤ S.size a) (w : S.Idx → Elt F e) (L : List (View.Piece (Elt F) S e))
    (h : ∀ a, off a = 0) :
    v.read (Elt F) (v.writes (Elt F) f ((⟨Rect.unit off S.size inb, w⟩ : View.Piece (Elt F) S e) :: L)) = w := by
  rw [View.read_writes_eq_canon v f _ fun y => ⟨_, List.mem_cons_self .., View.mem_set_unit_zero (funext h) inb y⟩]
  exact View.canon_cons_unit_lit inb w L h

end Cert.Whiten

end
-- ==== Proof.RunBlocks.lean ====
/- The body at an accumulating point and at a whitening point, run once for any staging buffers: what each leaves in
   the two accumulators and in the output block. -/
module

public import proofs.«01_k».proof.Proof.Setup

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point: the accumulators, at anything, end at the first block added to zeros. -/
theorem run_first (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256 .f32) (harg8 : arg8.IsWhole) (hc0 : isFirst i) (hc1 : isAcc i) (hc2 : ¬isFactor i) (hc3 : ¬isWhiten i) (x : Vec F S4096x256 .f32) (E : Set ℕ) (K : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg1 fullShare x ∗ (∃ d, owns (c : Thread nD τ) arg2 fullShare d) ∗ owns (c : Thread nD τ) arg3 fullShare (k0_pay4 x k0_pay1) ∗ owns (c : Thread nD τ) arg4 fullShare (k0_pay5 x k0_pay2) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
    ⊢ wp frame (wpE (defs₀ (F := F)) Variants.none c none) E (cc0_decor_fused i arg1 harg1 arg2 harg2 arg3 harg3 arg4 harg4 arg5 harg5 arg6 harg6 arg7 harg7 arg8 harg8) K := by
  simp only [cc0_decor_fused_eq_skeleton]; unfold cc0_decor_fused_skel
  unfold owns
  iintro ⟨⟨%f1, %e1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  obtain rfl := harg1.eq_unread e1
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _, _; isplitr; swap; · iexact H2
    ipureintro; rfl
  isplitl [H3]
  · iexists _; isplitr; swap; · iexact H3
    ipureintro
    first | exact read_writes_last _ _ _ _ _ (by decide) | (rw [read_writes_last _ _ _ _ _ (by decide)]; sl_unfold_words; simp (disch := decide) only [View.readCov_cons_unit_lit', View.readCov_unit_lit', View.readAt_eq_ld, View.ld_unit_lit', Memref.IsWhole.read_unread])
  isplitl [H4]
  · iexists _; isplitr; swap; · iexact H4
    ipureintro
    first | exact read_writes_last _ _ _ _ _ (by decide) | (rw [read_writes_last _ _ _ _ _ (by decide)]; sl_unfold_words; simp (disch := decide) only [View.readCov_cons_unit_lit', View.readCov_unit_lit', View.readAt_eq_ld, View.ld_unit_lit', Memref.IsWhole.read_unread])
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

set_option maxHeartbeats 1000000 in
/-- A later accumulating point: its block is added to what the accumulators held. -/
theorem run_acc (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256 .f32) (harg8 : arg8.IsWhole) (hc0 : ¬isFirst i) (hc1 : isAcc i) (hc2 : ¬isFactor i) (hc3 : ¬isWhiten i) (x : Vec F S4096x256 .f32) (g : Vec F S256x256 .f32) (s : Vec F S1x256 .f32) (E : Set ℕ) (K : PUnit → sProp 𝕄) :
    iprop(owns (c : Thread nD τ) arg1 fullShare x ∗ (∃ d, owns (c : Thread nD τ) arg2 fullShare d) ∗ owns (c : Thread nD τ) arg3 fullShare g ∗ owns (c : Thread nD τ) arg4 fullShare s ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg1 fullShare x ∗ (∃ d, owns (c : Thread nD τ) arg2 fullShare d) ∗ owns (c : Thread nD τ) arg3 fullShare (k0_pay4 x g) ∗ owns (c : Thread nD τ) arg4 fullShare (k0_pay5 x s) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
    ⊢ wp frame (wpE (defs₀ (F := F)) Variants.none c none) E (cc0_decor_fused i arg1 harg1 arg2 harg2 arg3 harg3 arg4 harg4 arg5 harg5 arg6 harg6 arg7 harg7 arg8 harg8) K := by
  simp only [cc0_decor_fused_eq_skeleton]; unfold cc0_decor_fused_skel
  unfold owns
  iintro ⟨⟨%f1, %e1, H1⟩, ⟨%d2, %f2, -, H2⟩, ⟨%f3, %e3, H3⟩, ⟨%f4, %e4, H4⟩, ⟨%d5, %f5, -, H5⟩, ⟨%d6, %f6, -, H6⟩, ⟨%d7, %f7, -, H7⟩, ⟨%d8, %f8, -, H8⟩, Hk⟩
  obtain rfl := harg1.eq_unread e1
  obtain rfl := harg3.eq_unread e3
  obtain rfl := harg4.eq_unread e4
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _, _; isplitr; swap; · iexact H2
    ipureintro; rfl
  isplitl [H3]
  · iexists _; isplitr; swap; · iexact H3
    ipureintro
    first | exact read_writes_last _ _ _ _ _ (by decide) | (rw [read_writes_last _ _ _ _ _ (by decide)]; sl_unfold_words; simp (disch := decide) only [View.readCov_cons_unit_lit', View.readCov_unit_lit', View.readAt_eq_ld, View.ld_unit_lit', Memref.IsWhole.read_unread])
  isplitl [H4]
  · iexists _; isplitr; swap; · iexact H4
    ipureintro
    first | exact read_writes_last _ _ _ _ _ (by decide) | (rw [read_writes_last _ _ _ _ _ (by decide)]; sl_unfold_words; simp (disch := decide) only [View.readCov_cons_unit_lit', View.readCov_unit_lit', View.readAt_eq_ld, View.ld_unit_lit', Memref.IsWhole.read_unread])
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

set_option maxHeartbeats 1000000 in
/-- A whitening point: the output block is the input block through the factor, less the bias. -/
theorem run_whiten (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256 .f32) (harg8 : arg8.IsWhole) (hc0 : ¬isFirst i) (hc1 : ¬isAcc i) (hc2 : ¬isFactor i) (hc3 : isWhiten i) (x : Vec F S4096x256 .f32) (w : Vec F S256x256 .f32) (b : Vec F S1x256 .f32) (E : Set ℕ) (K : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare w ∗ owns (c : Thread nD τ) arg8 fullShare b
      ∗ (iprop(owns (c : Thread nD τ) arg1 fullShare x ∗ owns (c : Thread nD τ) arg2 fullShare (k0_pay9 x w b) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare w ∗ owns (c : Thread nD τ) arg8 fullShare b) -∗ K ⟨⟩))
    ⊢ wp frame (wpE (defs₀ (F := F)) Variants.none c none) E (cc0_decor_fused i arg1 harg1 arg2 harg2 arg3 harg3 arg4 harg4 arg5 harg5 arg6 harg6 arg7 harg7 arg8 harg8) K := by
  simp only [cc0_decor_fused_eq_skeleton]; unfold cc0_decor_fused_skel
  unfold owns
  iintro ⟨⟨%f1, %e1, H1⟩, ⟨%d2, %f2, -, H2⟩, ⟨%d3, %f3, -, H3⟩, ⟨%d4, %f4, -, H4⟩, ⟨%d5, %f5, -, H5⟩, ⟨%d6, %f6, -, H6⟩, ⟨%f7, %e7, H7⟩, ⟨%f8, %e8, H8⟩, Hk⟩
  obtain rfl := harg1.eq_unread e1
  obtain rfl := harg7.eq_unread e7
  obtain rfl := harg8.eq_unread e8
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; swap; · iexact H2
    ipureintro
    first | exact read_writes_last _ _ _ _ _ (by decide) | (rw [read_writes_last _ _ _ _ _ (by decide)]; sl_unfold_words; simp (disch := decide) only [View.readCov_cons_unit_lit', View.readCov_unit_lit', View.readAt_eq_ld, View.ld_unit_lit', Memref.IsWhole.read_unread])
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _; isplitr; · ipureintro; exact harg7.read_unread _
    iexact H7
  iexists _; isplitr; · ipureintro; exact harg8.read_unread _
  iexact H8

end Cert.Whiten

end
-- ==== Proof.Factor.lean ====
/- The factorisation of the covariance as the kernel computes it, block of 128 rows by block of 128 rows: Gauss
   elimination of the block beside the identity, the rows scaled by the reciprocal square roots of the pivots, and the
   product with the whole slab. Every function here is one of the kernel's own expressions, the elimination steps as ONE
   recursion on the step's number. -/
module

public import proofs.«01_k».proof.Proof.Setup

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The row number down a block, and the column number along the covariance. -/
def rowNo : IVec S128x1 32 := iota .tc S128x1 32 [0] iota_S128x1_d0_w32
def colNo : IVec S1x256 32 := iota .tc S1x256 32 [1] iota_S1x256_d1_w32

theorem col_fits (k : ℕ) : S128x256.Slices ![0, k % 128] S128x1 := by
  refine ⟨rfl, fun a => ?_⟩
  fin_cases a
  · simp [S128x256, S128x1]
  · have := Nat.mod_lt k (show 0 < 128 by norm_num); simp [S128x256, S128x1]; omega
theorem row_fits (k : ℕ) : S128x256.Slices ![k % 128, 0] S1x256 := by
  refine ⟨rfl, fun a => ?_⟩
  fin_cases a
  · have := Nat.mod_lt k (show 0 < 128 by norm_num); simp [S128x256, S1x256]; omega
  · simp [S128x256, S1x256]
theorem cell_fits (k : ℕ) : S128x1.Slices ![k % 128, 0] S1x1 := by
  refine ⟨rfl, fun a => ?_⟩
  fin_cases a
  · have := Nat.mod_lt k (show 0 < 128 by norm_num); simp [S128x1, S1x1]; omega
  · simp [S128x1, S1x1]

/-- Column `k` of the work matrix, the reciprocal square root of its pivot, and row `k`. -/
def pivotCol (k : ℕ) (M : FVec F S128x256 .f32) : FVec F S128x1 .f32 :=
  extractStridedSlice S128x1 ![0, k % 128] M (col_fits k)
def pivotScale (k : ℕ) (M : FVec F S128x256 .f32) : FVec F S1x1 .f32 :=
  rsqrt (extractStridedSlice S1x1 ![k % 128, 0] (pivotCol k M) (cell_fits k))
def pivotRow (k : ℕ) (M : FVec F S128x256 .f32) : FVec F S1x256 .f32 :=
  extractStridedSlice S1x256 ![k % 128, 0] M (row_fits k)

/-- One step: a multiple of row `k` taken from every row below it. -/
def elimStep (k : ℕ) (M : FVec F S128x256 .f32) : FVec F S128x256 .f32 :=
  subf M (mulf
    (broadcastTo S128x256
      (mulf (select (cmpi .sgt rowNo (broadcast S128x1 (BitVec.ofNat 32 (k % 128)))) (pivotCol k M)
          (broadcast S128x1 (Scalar.ofBits .f32 0x00000000#32)))
        (broadcastTo S128x1 (mulf (pivotScale k M) (pivotScale k M)) broadcasts_S1x1_S128x1))
      broadcasts_S128x1_S128x256)
    (broadcastTo S128x256 (pivotRow k M) broadcasts_S1x256_S128x256))

/-- The work matrix after the first `n` steps. -/
def elim (M : FVec F S128x256 .f32) : ℕ → FVec F S128x256 .f32
  | 0 => M
  | n + 1 => elimStep n (elim M n)

theorem pivots_stack {f : Fin 128 → S1x1.Idx → F .f32} :
    Shape.Concatenates ((List.ofFn fun k => (⟨S1x1, f k⟩ : (s : Shape) × (s.Idx → F .f32))).map (·.1)) S128x1 0 := by
  have h : ((List.ofFn fun k => (⟨S1x1, f k⟩ : (s : Shape) × (s.Idx → F .f32))).map (·.1)) = List.replicate 128 S1x1 := by
    rw [List.map_ofFn]; exact List.ofFn_const 128 S1x1
  rw [h]; decide +kernel

/-- The 128 pivots' reciprocal square roots, stacked. -/
def scales (M : FVec F S128x256 .f32) : FVec F S128x1 .f32 :=
  concatenate S128x1 0 (List.ofFn fun k : Fin 128 => (⟨S1x1, pivotScale k.val (elim M k.val)⟩ : (s : Shape) × (s.Idx → F .f32)))
    pivots_stack

/-- A diagonal block beside the identity. -/
def work (d : FVec F S128x128 .f32) : FVec F S128x256 .f32 :=
  concatenate S128x256 1 [⟨S128x128, d⟩, ⟨S128x128, k0_pay13 (F := F)⟩] concatenates_S128x128_S128x128_S128x256_d1

/-- The slab's rows through the inverse factor of the block that `M` starts from. -/
def rowsThrough (M s p : FVec F S128x256 .f32) : FVec F S128x512 .f32 :=
  matmul dot_S128x128_S128x512_S128x512_1_0_0_1_n_n none
    (mulf (broadcastTo S128x128 (scales M) broadcasts_S128x1_S128x128)
      (extractStridedSlice S128x128 ![0, 128] (elim M 128) slices_S128x256_o0_128_S128x128))
    (concatenate S128x512 1 [⟨S128x256, s⟩, ⟨S128x256, p⟩] concatenates_S128x256_S128x256_S128x512_d1)
    (constant S128x512 .f32 0x00000000#32)

/-- Row number plus `j`, spread over a slab, and the column number likewise. -/
def rowAt (j : BitVec 32) : IVec S128x256 32 :=
  broadcastTo S128x256 (addi rowNo (broadcast S128x1 j)) broadcasts_S128x1_S128x256
def colAt : IVec S128x256 32 := broadcastTo S128x256 colNo broadcasts_S1x256_S128x256

/-- Ones where the column is row `j + ` the block's row. -/
def unitRows (j : BitVec 32) : FVec F S128x256 .f32 := sitofp .f32 (extui 32 (cmpi .eq colAt (rowAt j)) natLt_1_32)

/-- The upper part of the left half and the lower part of the right half, side by side. -/
def masked (j : BitVec 32) (u : FVec F S128x512 .f32) : FVec F S128x512 .f32 :=
  shapeCast S128x512 (concatenate S128x512 1
    [⟨S128x256, select (cmpi .sge colAt (rowAt j)) (extractStridedSlice S128x256 ![0, 0] u slices_S128x512_o0_0_S128x256)
        (broadcast S128x256 (Scalar.ofBits .f32 0x00000000#32))⟩,
      ⟨S128x256, select (cmpi .sle colAt (rowAt j)) (extractStridedSlice S128x256 ![0, 256] u slices_S128x512_o0_256_S128x256)
        (broadcast S128x256 (Scalar.ofBits .f32 0x00000000#32))⟩]
    concatenates_S128x256_S128x256_S128x512_d1) shapeCasts_S128x512_S128x512

/-- The first 128 rows of the two factors, from the covariance's first 128 rows. -/
def firstRows (a : FVec F S128x256 .f32) : FVec F S128x512 .f32 :=
  masked 0#32 (rowsThrough (work (extractStridedSlice S128x128 ![0, 0] a slices_S128x256_o0_0_S128x128)) a (unitRows 0#32))

/-- The correction of the second 128 rows by the first. -/
def correction (u : FVec F S256x128 .f32) (uw : FVec F S256x512 .f32) : FVec F S128x512 .f32 :=
  matmul dot_S256x128_S256x512_S128x512_0_0_1_1_n_n none u uw (constant S128x512 .f32 0x00000000#32)
def slabLeft (a : FVec F S128x256 .f32) (u : FVec F S256x128 .f32) (uw : FVec F S256x512 .f32) : FVec F S128x256 .f32 :=
  subf a (extractStridedSlice S128x256 ![0, 0] (correction u uw) slices_S128x512_o0_0_S128x256)
def slabRight (u : FVec F S256x128 .f32) (uw : FVec F S256x512 .f32) : FVec F S128x256 .f32 :=
  subf (unitRows 128#32) (extractStridedSlice S128x256 ![0, 256] (correction u uw) slices_S128x512_o0_256_S128x256)

/-- The second 128 rows of the two factors. -/
def secondRows (a : FVec F S128x256 .f32) (u : FVec F S256x128 .f32) (uw : FVec F S256x512 .f32) : FVec F S128x512 .f32 :=
  masked 128#32 (rowsThrough (work (extractStridedSlice S128x128 ![0, 128] (slabLeft a u uw) slices_S128x256_o0_128_S128x128))
    (slabLeft a u uw) (slabRight u uw))

/-- The two halves of the covariance's rows, and the factors' buffer after the zeroing and each half's store. -/
def covRows0 (g : FVec F S256x256 .f32) (s : FVec F S1x256 .f32) : FVec F S128x256 .f32 :=
  fun j => k0_pay11 g s ((Rect.unit (s := S256x256) ![0, 0] S128x256.size inb_S256x256_S128x256_0_0).toLoadRect.idx j)
def covRows1 (g : FVec F S256x256 .f32) (s : FVec F S1x256 .f32) : FVec F S128x256 .f32 :=
  fun j => k0_pay11 g s ((Rect.unit (s := S256x256) ![128, 0] S128x256.size inb_S256x256_S128x256_128_0).toLoadRect.idx j)
def storesZero : List (View.Piece (Elt F) S256x512 .f32) :=
  [⟨Rect.unit (s := S256x512) ![0, 0] S256x512.size inb_S256x512_S256x512_0_0, k0_pay12 (F := F)⟩]
def storesOne (g : FVec F S256x256 .f32) (s : FVec F S1x256 .f32) : List (View.Piece (Elt F) S256x512 .f32) :=
  ⟨Rect.unit (s := S256x512) ![0, 0] S128x512.size inb_S256x512_S128x512_0_0, firstRows (covRows0 g s)⟩ :: storesZero
def factors1 (g : FVec F S256x256 .f32) (s : FVec F S1x256 .f32) : FVec F S256x512 .f32 :=
  View.canon (Val := Elt F) (e := .f32) (storesOne g s)
def upperCols (g : FVec F S256x256 .f32) (s : FVec F S1x256 .f32) : FVec F S256x128 .f32 :=
  fun j => factors1 g s ((Rect.unit (s := S256x512) ![0, 128] S256x128.size inb_S256x512_S256x128_0_128).toLoadRect.idx j)
def storesTwo (g : FVec F S256x256 .f32) (s : FVec F S1x256 .f32) : List (View.Piece (Elt F) S256x512 .f32) :=
  ⟨Rect.unit (s := S256x512) ![128, 0] S128x512.size inb_S256x512_S128x512_128_0,
      secondRows (covRows1 g s) (upperCols g s) (factors1 g s)⟩ :: storesOne g s
def factors2 (g : FVec F S256x256 .f32) (s : FVec F S1x256 .f32) : FVec F S256x512 .f32 :=
  View.canon (Val := Elt F) (e := .f32) (storesTwo g s)
/-- The inverse factor: the right half of the buffer. -/
def inverseFactor (g : FVec F S256x256 .f32) (s : FVec F S1x256 .f32) : FVec F S256x256 .f32 :=
  fun j => factors2 g s ((Rect.unit (s := S256x512) ![0, 256] S256x256.size inb_S256x512_S256x256_0_256).toLoadRect.idx j)

end Cert.Whiten

end
-- ==== Proof.RunFactor.lean ====
/- The body at the factoring point: it leaves the transposed inverse factor and the bias. -/
module

public import proofs.«01_k».proof.Proof.Factor

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A load of a whole buffer through the rectangle of its shape. -/
theorem load_whole {S : Shape} {e : EltTy} (M : Memref sig .tc .vmem S e) (hM : M.IsWhole) (x : Vec F S e) {off : Fin S.rank → ℕ}
    (inb : ∀ a, off a + S.size a ≤ S.size a) (h : ∀ a, off a = 0) :
    View.readAt (Elt F) M.view (Rect.unit off S.size inb).toLoadRect (hM.unread x) = x := by
  exact (View.readAt_eq_ld ..).trans ((View.ld_unit_lit inb _ h).trans (hM.read_unread x))

/-- A load of a part of what one store through the whole shape left. -/
theorem load_of_store {S : Shape} {e : EltTy} (M : Memref sig .tc .vmem S e) {off : Fin S.rank → ℕ} (inb : ∀ a, off a + S.size a ≤ S.size a)
    (w : S.Idx → Elt F e) (h : ∀ a, off a = 0) (B : LoadRect S) :
    M.view.readCov [(⟨Rect.unit off S.size inb, w⟩ : View.Piece (Elt F) S e)] B = fun j => w (B.idx j) :=
  (View.readCov_eq_canon' ..).trans (funext fun j => congrFun (View.canon_cons_unit_lit inb w [] h) (B.idx j))

set_option maxHeartbeats 1000000 in
/-- The factoring point. -/
theorem run_factor (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x512 .f32) (harg6 : arg6.IsWhole) (arg7 : Memref sig .tc .vmem S256x256 .f32) (harg7 : arg7.IsWhole) (arg8 : Memref sig .tc .vmem S1x256 .f32) (harg8 : arg8.IsWhole) (hc0 : ¬isFirst i) (hc1 : ¬isAcc i) (hc2 : isFactor i) (hc3 : ¬isWhiten i) (x : Vec F S4096x256 .f32) (g : Vec F S256x256 .f32) (s : Vec F S1x256 .f32) (E : Set ℕ) (K : PUnit → sProp 𝕄) :
    iprop(owns (c : Thread nD τ) arg1 fullShare x ∗ (∃ d, owns (c : Thread nD τ) arg2 fullShare d) ∗ owns (c : Thread nD τ) arg3 fullShare g ∗ owns (c : Thread nD τ) arg4 fullShare s ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg1 fullShare x ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare (k0_pay7 (inverseFactor g s)) ∗ owns (c : Thread nD τ) arg8 fullShare (k0_pay8 (k0_pay10 s) (inverseFactor g s))) -∗ K ⟨⟩))
    ⊢ wp frame (wpE (defs₀ (F := F)) Variants.none c none) E (cc0_decor_fused i arg1 harg1 arg2 harg2 arg3 harg3 arg4 harg4 arg5 harg5 arg6 harg6 arg7 harg7 arg8 harg8) K := by
  simp only [cc0_decor_fused_eq_skeleton]; unfold cc0_decor_fused_skel
  simp only [k0_part76_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
  unfold owns
  iintro ⟨⟨%f1, %e1, H1⟩, ⟨%d2, %f2, -, H2⟩, ⟨%f3, %e3, H3⟩, ⟨%f4, %e4, H4⟩, ⟨%d5, %f5, -, H5⟩, ⟨%d6, %f6, -, H6⟩, ⟨%d7, %f7, -, H7⟩, ⟨%d8, %f8, -, H8⟩, Hk⟩
  obtain rfl := harg1.eq_unread e1
  obtain rfl := harg3.eq_unread e3
  obtain rfl := harg4.eq_unread e4
  sl_exec (disch := first | sl_exact hc0 | sl_exact hc1 | sl_exact hc2 | sl_exact hc3)
  sl_step
  -- the loads' values, one buffer after another
  have h0 : run_factor.sl.v49 c arg3 harg3 arg4 harg4 arg5 g s = covRows0 g s := by
    delta run_factor.sl.v49 run_factor.sl.H5_1
    rw [load_whole arg3 harg3 g _ (by decide), load_whole arg4 harg4 s _ (by decide)]
    exact load_of_store _ _ _ (by decide) _
  have h1 : run_factor.sl.v2005 c arg3 harg3 arg4 harg4 arg5 g s = covRows1 g s := by
    delta run_factor.sl.v2005 run_factor.sl.H5_1
    rw [load_whole arg3 harg3 g _ (by decide), load_whole arg4 harg4 s _ (by decide)]
    exact load_of_store _ _ _ (by decide) _
  have h2 : run_factor.sl.H6_2 c arg3 harg3 arg4 harg4 arg5 g s = storesOne g s := by
    have : run_factor.sl.H6_2 c arg3 harg3 arg4 harg4 arg5 g s
        = ⟨Rect.unit (s := S256x512) ![0, 0] S128x512.size inb_S256x512_S128x512_0_0,
            firstRows (run_factor.sl.v49 c arg3 harg3 arg4 harg4 arg5 g s)⟩ :: storesZero := by sl_kernel_rfl
    rw [this, h0]; rfl
  have h3 : run_factor.sl.v2013 c arg3 harg3 arg4 harg4 arg5 arg6 g s = upperCols g s := by
    delta run_factor.sl.v2013; rw [h2]; exact View.readCov_eq_canon' ..
  have h4 : run_factor.sl.v2014 c arg3 harg3 arg4 harg4 arg5 arg6 g s = factors1 g s := by
    delta run_factor.sl.v2014; rw [h2]
    exact (View.readCov_eq_canon' ..).trans (View.ld_unit_lit (Val := Elt F) (e := .f32) _ (factors1 g s) (by decide))
  have h5 : run_factor.sl.H6_3 c arg3 harg3 arg4 harg4 arg5 arg6 g s = storesTwo g s := by
    have : run_factor.sl.H6_3 c arg3 harg3 arg4 harg4 arg5 arg6 g s
        = ⟨Rect.unit (s := S256x512) ![128, 0] S128x512.size inb_S256x512_S128x512_128_0,
            secondRows (run_factor.sl.v2005 c arg3 harg3 arg4 harg4 arg5 g s)
              (run_factor.sl.v2013 c arg3 harg3 arg4 harg4 arg5 arg6 g s)
              (run_factor.sl.v2014 c arg3 harg3 arg4 harg4 arg5 arg6 g s)⟩
          :: run_factor.sl.H6_2 c arg3 harg3 arg4 harg4 arg5 g s := by sl_kernel_rfl
    rw [this, h1, h2, h3, h4]; rfl
  have h6 : run_factor.sl.v3968 c arg3 harg3 arg4 harg4 arg5 arg6 g s = inverseFactor g s := by
    delta run_factor.sl.v3968; rw [h5]; exact View.readCov_eq_canon' ..
  iapply Hk
  isplitl [H1]
  · iexists _; isplitr; · ipureintro; exact harg1.read_unread _
    iexact H1
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _; isplitr; swap; · iexact H7
    ipureintro
    refine (read_writes_last _ _ _ _ _ (by decide)).trans ?_; rw [h6]
  iexists _; isplitr; swap; · iexact H8
  ipureintro
  refine (read_writes_last _ _ _ _ _ (by decide)).trans ?_; rw [h6]; delta run_factor.sl.r; rw [load_whole arg4 harg4 s _ (by decide)]

end Cert.Whiten

end
-- ==== Proof.Region.lean ====
/- The fused whitening kernel's one region: what its buffers hold between the grid points, the body's obligation at each
   point, and the run of the whole program, which ends with every counter at zero. -/
module

public import proofs.«01_k».proof.Proof.RunBlocks
public import proofs.«01_k».proof.Proof.RunFactor
public import Idealize.ShloMosaic.Lib.Pipeline.TableIdle

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The Gram accumulator after the first `n` blocks. -/
def gramAfter (c : Dev nD) : ℕ → Vec F S256x256 .f32
  | 0 => k0_pay1
  | n + 1 => if h : n < cfg0.N then k0_pay4 (iblk m c 0 ⟨n, h⟩) (gramAfter c n) else gramAfter c n

/-- The sum accumulator after the first `n` blocks. -/
def sumAfter (c : Dev nD) : ℕ → Vec F S1x256 .f32
  | 0 => k0_pay2
  | n + 1 => if h : n < cfg0.N then k0_pay5 (iblk m c 0 ⟨n, h⟩) (sumAfter c n) else sumAfter c n

theorem gramAfter_succ (c : Dev nD) (t : Fin cfg0.N) : gramAfter m c (t.val + 1) = k0_pay4 (iblk m c 0 t) (gramAfter m c t.val) := by
  rw [gramAfter, dif_pos t.isLt]
theorem sumAfter_succ (c : Dev nD) (t : Fin cfg0.N) : sumAfter m c (t.val + 1) = k0_pay5 (iblk m c 0 t) (sumAfter m c t.val) := by
  rw [sumAfter, dif_pos t.isLt]

/-- The inverse factor the kernel computes from the two finished accumulators. -/
def factorOf (c : Dev nD) : Vec F S256x256 .f32 := inverseFactor (gramAfter m c 32) (sumAfter m c 32)
/-- What the kernel keeps of it: the transpose, and the whitened mean. -/
def wtOf (c : Dev nD) : Vec F S256x256 .f32 := k0_pay7 (factorOf m c)
def biasOf (c : Dev nD) : Vec F S1x256 .f32 := k0_pay8 (k0_pay10 (sumAfter m c 32)) (factorOf m c)

/-- The buffers while blocks are being accumulated: the two accumulators named, the rest at anything. -/
def Gathering (c : Dev nD) (n : ℕ) : sProp 𝕄 :=
  iprop(iprop(owns (c : Thread nD τ) gramM fullShare (gramAfter m c n) ∗ owns (c : Thread nD τ) sumM fullShare (sumAfter m c n) ∗ (∃ d, owns (c : Thread nD τ) covM fullShare d) ∗ (∃ d, owns (c : Thread nD τ) uwM fullShare d) ∗ (∃ d, owns (c : Thread nD τ) wtM fullShare d) ∗ (∃ d, owns (c : Thread nD τ) biasM fullShare d)) ∗ (∃ r, prngReg c r))

/-- The buffers once the covariance is factored: the factor and the bias named, the rest at anything. -/
def Factored (c : Dev nD) : sProp 𝕄 :=
  iprop(iprop((∃ d, owns (c : Thread nD τ) gramM fullShare d) ∗ (∃ d, owns (c : Thread nD τ) sumM fullShare d) ∗ (∃ d, owns (c : Thread nD τ) covM fullShare d) ∗ (∃ d, owns (c : Thread nD τ) uwM fullShare d) ∗ owns (c : Thread nD τ) wtM fullShare (wtOf m c) ∗ owns (c : Thread nD τ) biasM fullShare (biasOf m c)) ∗ (∃ r, prngReg c r))

/-- The invariant before point `n`. -/
def between (c : Dev nD) (n : ℕ) : sProp 𝕄 :=
  if n = 0 then Pipeline.ΦA spec0 c else if n ≤ 32 then Gathering m c n else Factored m c

theorem between_zero (c : Dev nD) : between m c 0 = Pipeline.ΦA spec0 c := if_pos rfl
theorem between_gathering (c : Dev nD) {n : ℕ} (h : n ≠ 0) (h' : n ≤ 32) : between m c n = Gathering m c n := by
  unfold between; rw [if_neg h, if_pos h']
theorem between_factored (c : Dev nD) {n : ℕ} (h : 32 < n) : between m c n = Factored m c := by
  unfold between; rw [if_neg (by omega), if_neg (by omega)]

/-- The proof data: the arrays as the region finds them, each input block left in place, each output block whitened. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => k0_pay9 (iblk m c 0 t) (wtOf m c) (biasOf m c)
  Φ t := between m c t.val
  q _ := fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = between m c t.val := by
  dsimp only [dats]; rfl
theorem inv_succ (c : Dev nD) (t : Fin cfg0.N) : (dats m 0 c).Φ t.succ = between m c (t.val + 1) := by
  dsimp only [dats]; rfl
theorem after_in (c : Dev nD) (t : Fin cfg0.N) : (dats m 0 c).after 0 t = iblk m c 0 t := by dsimp only [dats]
theorem after_out (c : Dev nD) (t : Fin cfg0.N) :
    (dats m 0 c).after 1 t = k0_pay9 (iblk m c 0 t) (wtOf m c) (biasOf m c) := by dsimp only [dats]
theorem before_in (c : Dev nD) (t : Fin cfg0.N) (d) : (dats m 0 c).before 0 t d = iblk m c 0 t :=
  before0_0_of m (dats m 0 c) (A_eq m c 0) (after_in m c) t d

/-- Until the first whitening point the output's buffer holds what it held at the start. -/
theorem before_out (c : Dev nD) (t : Fin cfg0.N) (ht : t.val ≤ 32) (d) : (dats m 0 c).before 1 t d = d := by
  have hfetch : ∀ t : Fin cfg0.N, (cfg0.win 1).fetch t = false := fun _ => rfl
  rw [Pipeline.Dat.before_idle_run _ 1 hfetch d t.val t le_rfl fun j _ h =>
    ⟨by rw [idle_out]; exact decide_eq_true (by omega), flush_out j (by omega)⟩]
  unfold Dat.before
  rw [if_neg (by rw [hfetch]; exact Bool.false_ne_true), if_pos (Nat.sub_self _)]

theorem leaves_in (c : Dev nD) (t : Fin cfg0.N) :
    (dats m 0 c).leavesExact 0 t = owns (c : Thread nD τ) (inM t) fullShare (iblk m c 0 t) := by
  have : cfg0.idle 0 (cfg0.grid.coords t) = false := rfl
  unfold Dat.leavesExact; rw [this, after_in]

theorem leaves_out_idle (c : Dev nD) (t : Fin cfg0.N) (ht : t.val ≤ 32) :
    (dats m 0 c).leavesExact 1 t = iprop(∃ d, owns (c : Thread nD τ) (outM t) fullShare d) := by
  rw [Pipeline.Dat.leavesExact_idle _ 1 t (by rw [idle_out]; exact decide_eq_true ht) (flush_out t ht)]
  simp only [before_out m c t ht]; rfl

theorem leaves_out (c : Dev nD) (t : Fin cfg0.N) (ht : 32 < t.val) :
    (dats m 0 c).leavesExact 1 t
      = owns (c : Thread nD τ) (outM t) fullShare (k0_pay9 (iblk m c 0 t) (wtOf m c) (biasOf m c)) := by
  have : cfg0.idle 1 (cfg0.grid.coords t) = false := by rw [idle_out]; exact decide_eq_false (by omega)
  unfold Dat.leavesExact; rw [this, after_out]

/-- What the body is called with at a point, the output's buffer at anything, and what it returns. -/
def bodyPre (c : Dev nD) (t : Fin cfg0.N) : sProp 𝕄 :=
  iprop(between m c t.val ∗ (dats m 0 c).owesAt () t.castSucc
    ∗ owns (c : Thread nD τ) (inM t) fullShare (iblk m c 0 t)
    ∗ (∃ d, owns (c : Thread nD τ) (outM t) fullShare d))
def bodyPost (c : Dev nD) (t : Fin cfg0.N) : sProp 𝕄 :=
  iprop(between m c (t.val + 1) ∗ (dats m 0 c).owesAt () t.castSucc
    ∗ owns (c : Thread nD τ) (inM t) fullShare (iblk m c 0 t) ∗ (dats m 0 c).leavesExact 1 t)

/-- The first point. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  rw [leaves_out_idle m c t (by omega), between_gathering m c (n := t.val + 1) (by omega) (by omega), ht, between_zero, entry_eq, ← ht, Gathering, gramAfter_succ, sumAfter_succ, ht, gramAfter, sumAfter]
  iintro ⟨⟨⟨S0, S1, S2, S3, S4, S5⟩, Hg⟩, Ho, H0, H1⟩
  iapply (run_first c (grid0.coords t) _ _ _ _ _ (Memref.isWhole_whole _) _ (Memref.isWhole_whole _) _ (Memref.isWhole_whole _) _ (Memref.isWhole_whole _) _ (Memref.isWhole_whole _) _ (Memref.isWhole_whole _)
    ((isFirst_iff t).mpr (by omega)) ((isAcc_iff t).mpr (by omega)) (fun h => absurd ((isFactor_iff t).mp h) (by omega)) (fun h => absurd ((isWhiten_iff t).mp h) (by omega)) (iblk m c 0 t) Set.univ _)
  isplitl [H0]; · iexact H0
  isplitl [H1]; · iexact H1
  isplitl [S0]; · iexact S0
  isplitl [S1]; · iexact S1
  isplitl [S2]; · iexact S2
  isplitl [S3]; · iexact S3
  isplitl [S4]; · iexact S4
  isplitl [S5]; · iexact S5
  iintro ⟨H0, H1, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  iexact H1

/-- A later accumulating point. -/
theorem sound_acc (c : Dev nD) (t : Fin cfg0.N) (h0 : t.val ≠ 0) (ht : t.val < 32) :
    bodyPre m c t ⊢ wp frame (wpE (defs₀ (F := F)) Variants.none c none) Set.univ (bodyAt0 t) (fun _ => bodyPost m c t) := by
  unfold bodyPre bodyPost bodyAt0
  rw [leaves_out_idle m c t (by omega), between_gathering m c (n := t.val + 1) (by omega) (by omega), between_gathering m c h0 (by omega), Gathering, Gathering, gramAfter_succ, sumAfter_succ]
  iintro ⟨⟨⟨S0, S1, S2, S3, S4, S5⟩, Hg⟩, Ho, H0, H1⟩
  iapply (run_acc c (grid0.coords t) _ _ _ _ _ (Memref.isWhole_whole _) _ (Memref.isWhole_whole _) _ (Memref.isWhole_whole _) _ (Memref.isWhole_whole _) _ (Memref.isWhole_whole _) _ (Memref.isWhole_whole _)
    (fun h => absurd ((isFirst_iff t).mp h) (by omega)) ((isAcc_iff t).mpr (by omega)) (fun h => absurd ((isFactor_iff t).mp h) (by omega)) (fun h => absurd ((isWhiten_iff t).mp h) (by omega)) (iblk m c 0 t) (gramAfter m c t.val) (sumAfter m c t.val) Set.univ _)
  isplitl [H0]; · iexact H0
  isplitl [H1]; · iexact H1
  isplitl [S0]; · iexact S0
  isplitl [S1]; · iexact S1
  isplitl [S2]; · iexact S2
  isplitl [S3]; · iexact S3
  isplitl [S4]; · iexact S4
  isplitl [S5]; · iexact S5
  iintro ⟨H0, H1, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  iexact H1

/-- The factoring point. -/
theorem sound_factor (c : Dev nD) (t : Fin cfg0.N) (ht : t.val = 32) :
    bodyPre m c t ⊢ wp frame (wpE (defs₀ (F := F)) Variants.none c none) Set.univ (bodyAt0 t) (fun _ => bodyPost m c t) := by
  unfold bodyPre bodyPost bodyAt0
  rw [leaves_out_idle m c t (by omega), between_factored m c (n := t.val + 1) (by omega), between_gathering m c (n := t.val) (by omega) (by omega), Gathering, Factored, ht, wtOf, biasOf, factorOf]
  iintro ⟨⟨⟨S0, S1, S2, S3, S4, S5⟩, Hg⟩, Ho, H0, H1⟩
  iapply (run_factor c (grid0.coords t) _ _ _ _ _ (Memref.isWhole_whole _) _ (Memref.isWhole_whole _) _ (Memref.isWhole_whole _) _ (Memref.isWhole_whole _) _ (Memref.isWhole_whole _) _ (Memref.isWhole_whole _)
    (fun h => absurd ((isFirst_iff t).mp h) (by omega)) (fun h => absurd ((isAcc_iff t).mp h) (by omega)) ((isFactor_iff t).mpr (by omega)) (fun h => absurd ((isWhiten_iff t).mp h) (by omega)) (iblk m c 0 t) (gramAfter m c 32) (sumAfter m c 32) Set.univ _)
  isplitl [H0]; · iexact H0
  isplitl [H1]; · iexact H1
  isplitl [S0]; · iexact S0
  isplitl [S1]; · iexact S1
  isplitl [S2]; · iexact S2
  isplitl [S3]; · iexact S3
  isplitl [S4]; · iexact S4
  isplitl [S5]; · iexact S5
  iintro ⟨H0, H1, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  iexact H1

/-- A whitening point. -/
theorem sound_whiten (c : Dev nD) (t : Fin cfg0.N) (ht : 32 < t.val) :
    bodyPre m c t ⊢ wp frame (wpE (defs₀ (F := F)) Variants.none c none) Set.univ (bodyAt0 t) (fun _ => bodyPost m c t) := by
  unfold bodyPre bodyPost bodyAt0
  rw [leaves_out m c t ht, between_factored m c (n := t.val + 1) (by omega), between_factored m c ht, Factored]
  iintro ⟨⟨⟨S0, S1, S2, S3, S4, S5⟩, Hg⟩, Ho, H0, H1⟩
  iapply (run_whiten c (grid0.coords t) _ _ _ _ _ (Memref.isWhole_whole _) _ (Memref.isWhole_whole _) _ (Memref.isWhole_whole _) _ (Memref.isWhole_whole _) _ (Memref.isWhole_whole _) _ (Memref.isWhole_whole _)
    (fun h => absurd ((isFirst_iff t).mp h) (by omega)) (fun h => absurd ((isAcc_iff t).mp h) (by omega)) (fun h => absurd ((isFactor_iff t).mp h) (by omega)) ((isWhiten_iff t).mpr (by omega)) (iblk m c 0 t) (wtOf m c) (biasOf m c) Set.univ _)
  isplitl [H0]; · iexact H0
  isplitl [H1]; · iexact H1
  isplitl [S0]; · iexact S0
  isplitl [S1]; · iexact S1
  isplitl [S2]; · iexact S2
  isplitl [S3]; · iexact S3
  isplitl [S4]; · iexact S4
  isplitl [S5]; · iexact S5
  iintro ⟨H0, H1, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  iexact H1

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h1 : t.val < 32
  · exact sound_acc m c t h0 h1
  by_cases h2 : t.val = 32
  · exact sound_factor m c t h2
  · exact sound_whiten m c t (by omega)

/-- The body table's row is the body at the point's slots. -/
theorem defs_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs_row]
  refine triple_restated (sound_body m c t) rfl ?_ fun _ => ?_
  · unfold bodyPre
    rw [inv_castSucc]; simp only [before_in]
    iintro ⟨Hi, Ho, ⟨%d0, H0⟩, ⟨%d1, H1⟩⟩
    isplitl [Hi]; · iexact Hi
    isplitl [Ho]; · iexact Ho
    isplitl [H0]; · iexact H0
    iexists _; iexact H1
  · unfold bodyPost
    rw [inv_succ, ← leaves_in m c t]
    exact .rfl

theorem inv_in (c : Dev nD) : Pipeline.ΦA spec0 c ⊢ (dats m 0 c).Φ 0 := by
  rw [show (dats m 0 c).Φ 0 = between m c 0 from rfl, between_zero]

/-- After the last point the named contents are forgotten. -/
theorem inv_out (c : Dev nD) : (dats m 0 c).Φ (Fin.last cfg0.N) ⊢ Pipeline.ΦA spec0 c := by
  rw [show (dats m 0 c).Φ (Fin.last cfg0.N) = between m c cfg0.N from rfl,
    between_factored m c (by have : cfg0.N = 65 := N_0; omega), entry_eq, Factored]
  iintro ⟨⟨S0, S1, S2, S3, S4, S5⟩, Hg⟩
  isplitl [S0 S1 S2 S3 S4 S5]
  · isplitl [S0]; · iexact S0
    isplitl [S1]; · iexact S1
    isplitl [S2]; · iexact S2
    isplitl [S3]; · iexact S3
    isplitl [S4]; · iexists _; iexact S4
    iexists _; iexact S5
  iexact Hg

set_option backward.isDefEq.respectTransparency.types false in
set_option maxHeartbeats 800000 in
/-- The launch: the arrays end as the proof data says, and every counter is zero. -/
theorem run_region : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- Every run ends with the argument as launched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (run_region m ρ)))
    ((θ_run defs _ _).mono (fun _ h => h.2) (run_region m ρ))

end Cert.Whiten

end
-- ==== Proof.Elimination.lean ====
/- Gauss elimination of a positive definite real matrix, carried out on an accumulating unit lower triangular matrix.
   After all the steps the rows, scaled by the reciprocal square roots of the pivots, whiten the matrix. -/
module

public import Mathlib.LinearAlgebra.Matrix.NonsingularInverse
public import Mathlib.LinearAlgebra.Matrix.Symmetric
public import Mathlib.LinearAlgebra.Matrix.Block
public import Mathlib.Analysis.SpecialFunctions.Pow.NNReal
public import Mathlib.Tactic.FieldSimp
public import Mathlib.Tactic.Linarith
public import Mathlib.Tactic.Ring

@[expose] public section

noncomputable section

namespace Cert.Whiten

open Matrix

/-- A symmetric matrix whose quadratic form is positive. -/
structure Positive {ι : Type} [Fintype ι] (A : Matrix ι ι ℝ) : Prop where
  symm : Aᵀ = A
  form : ∀ v : ι → ℝ, v ≠ 0 → 0 < v ⬝ᵥ (A *ᵥ v)

variable {n : ℕ} {D E : Matrix (Fin n) (Fin n) ℝ}

/-- `E` is unit lower triangular, and `E D` has zeros below the diagonal in the first `k` columns. -/
structure Cleared (D E : Matrix (Fin n) (Fin n) ℝ) (k : ℕ) : Prop where
  unit : ∀ i, E i i = 1
  lower : ∀ i j, i < j → E i j = 0
  below : ∀ i j, j < i → j.val < k → (E * D) i j = 0

theorem Cleared.start (D : Matrix (Fin n) (Fin n) ℝ) : Cleared D 1 0 :=
  ⟨fun i => one_apply_eq i, fun i j h => one_apply_ne h.ne, fun _ _ _ h => absurd h (Nat.not_lt_zero _)⟩

/-- The pivot is the quadratic form of `D` at `E`'s row. -/
theorem Cleared.pivot (k : Fin n) (h : Cleared D E k.val) : (E * D * Eᵀ) k k = (E * D) k k := by
  rw [mul_apply, Finset.sum_eq_single k]
  · rw [transpose_apply, h.unit, mul_one]
  · intro j _ hj
    rcases lt_or_gt_of_ne hj with hj | hj
    · rw [h.below k j hj hj, zero_mul]
    · rw [transpose_apply, h.lower k j hj, mul_zero]
  · exact fun hk => absurd (Finset.mem_univ k) hk

theorem quad_row (k : Fin n) : (E * D * Eᵀ) k k = E k ⬝ᵥ (D *ᵥ E k) := by
  rw [mul_assoc, mul_apply]
  refine Finset.sum_congr rfl fun j _ => ?_
  rw [mul_apply]; rfl

/-- So the pivot is positive. -/
theorem Cleared.pivot_pos (hD : Positive D) (k : Fin n) (h : Cleared D E k.val) : 0 < (E * D) k k := by
  have hv : E k ≠ 0 := fun e => by simpa [h.unit] using congrFun e k
  rw [← h.pivot k, quad_row]
  exact hD.form _ hv

/-- One elimination step: `r` times row `k`, times each lower row's entry of column `k`, is taken away. -/
def clearStep (D : Matrix (Fin n) (Fin n) ℝ) (k : Fin n) (r : ℝ) (E : Matrix (Fin n) (Fin n) ℝ) : Matrix (Fin n) (Fin n) ℝ :=
  fun i j => E i j - (if k < i then (E * D) i k else 0) * r * E k j

theorem clearStep_mul (k : Fin n) (r : ℝ) (i j : Fin n) :
    (clearStep D k r E * D) i j = (E * D) i j - (if k < i then (E * D) i k else 0) * r * (E * D) k j := by
  simp only [mul_apply, clearStep, sub_mul, Finset.sum_sub_distrib, Finset.mul_sum, mul_assoc]

/-- A row not below the pivot stays as it was. -/
theorem clearStep_row (k : Fin n) (r : ℝ) (i : Fin n) (h : i ≤ k) : clearStep D k r E i = E i := by
  funext j; simp [clearStep, not_lt.2 h]
theorem clearStep_mul_row (k : Fin n) (r : ℝ) (i j : Fin n) (h : i ≤ k) : (clearStep D k r E * D) i j = (E * D) i j := by
  simp [clearStep_mul, not_lt.2 h]

theorem Cleared.step (k : Fin n) (h : Cleared D E k.val) {r : ℝ} (hr : r * (E * D) k k = 1) :
    Cleared D (clearStep D k r E) (k.val + 1) where
  unit i := by
    by_cases hi : k < i
    · simp [clearStep, h.unit, h.lower k i hi]
    · simp [clearStep, h.unit, hi]
  lower i j hij := by
    by_cases hi : k < i
    · simp [clearStep, h.lower i j hij, h.lower k j (hi.trans hij)]
    · simp [clearStep, h.lower i j hij, hi]
  below i j hij hj := by
    rw [clearStep_mul]
    rcases Nat.lt_succ_iff_lt_or_eq.1 hj with hj | hj
    · rw [h.below i j hij hj, h.below k j hj hj]; ring
    · obtain rfl : j = k := Fin.ext hj
      rw [if_pos hij, mul_assoc, hr]; ring

/-- All columns cleared: the quadratic forms of different rows vanish. -/
theorem Cleared.off_diag (hD : Dᵀ = D) (h : Cleared D E n) (i j : Fin n) (hij : i ≠ j) : (E * D * Eᵀ) i j = 0 := by
  have hlow : ∀ i j : Fin n, j < i → (E * D * Eᵀ) i j = 0 := by
    intro i j hji
    rw [mul_apply]
    refine Finset.sum_eq_zero fun l _ => ?_
    rcases lt_or_ge l i with hl | hl
    · rw [h.below i l hl l.isLt, zero_mul]
    · rw [transpose_apply, h.lower j l (hji.trans_le hl), mul_zero]
  rcases lt_or_gt_of_ne hij with hlt | hlt
  · have : (E * D * Eᵀ)ᵀ = E * D * Eᵀ := by simp [transpose_mul, hD, Matrix.mul_assoc]
    rw [← this, transpose_apply]; exact hlow j i hlt
  · exact hlow i j hlt

/-- A lower triangular matrix with positive diagonal that whitens `A`. -/
structure Whitens {m : ℕ} (A W : Matrix (Fin m) (Fin m) ℝ) : Prop where
  lower : ∀ i j, i < j → W i j = 0
  pos : ∀ i, 0 < W i i
  white : W * A * Wᵀ = 1

/-- The scaled rows whiten. -/
theorem Cleared.whitens (hD : Positive D) (h : Cleared D E n) (hp : ∀ i, 0 < (E * D) i i) :
    Whitens D (fun i j => (Real.sqrt ((E * D) i i))⁻¹ * E i j) where
  lower i j hij := by simp [h.lower i j hij]
  pos i := by rw [h.unit, mul_one]; exact inv_pos.2 (Real.sqrt_pos.2 (hp i))
  white := by
    have hT : Dᵀ = D := hD.symm
    have hS : (fun i j => (Real.sqrt ((E * D) i i))⁻¹ * E i j : Matrix (Fin n) (Fin n) ℝ)
        = diagonal (fun i => (Real.sqrt ((E * D) i i))⁻¹) * E := by
      ext i j; rw [diagonal_mul]
    have hdiag : E * D * Eᵀ = diagonal fun i => (E * D) i i := by
      ext i j
      by_cases hij : i = j
      · subst hij
        rw [diagonal_apply_eq]
        rw [mul_apply, Finset.sum_eq_single i]
        · rw [transpose_apply, h.unit, mul_one]
        · intro j _ hj
          rcases lt_or_gt_of_ne hj with hj | hj
          · rw [h.below i j hj j.isLt, zero_mul]
          · rw [transpose_apply, h.lower i j hj, mul_zero]
        · exact fun hk => absurd (Finset.mem_univ i) hk
      · rw [diagonal_apply_ne _ hij, h.off_diag hT i j hij]
    rw [hS, transpose_mul, diagonal_transpose]
    calc diagonal (fun i => (Real.sqrt ((E * D) i i))⁻¹) * E * D * (Eᵀ * diagonal fun i => (Real.sqrt ((E * D) i i))⁻¹)
        = diagonal (fun i => (Real.sqrt ((E * D) i i))⁻¹) * (E * D * Eᵀ) * diagonal fun i => (Real.sqrt ((E * D) i i))⁻¹ := by
          simp only [Matrix.mul_assoc]
      _ = 1 := by
          rw [hdiag, diagonal_mul_diagonal, diagonal_mul_diagonal, ← diagonal_one]
          congr 1; funext i
          have hs := Real.sqrt_pos.2 (hp i)
          have := Real.mul_self_sqrt (hp i).le
          field_simp
          nlinarith [this]

end Cert.Whiten

end
-- ==== Proof.Lift.lean ====
/- Elimination over extended reals: on a work matrix of real entries every step is the real step, so the scaled rows
   are a real whitening matrix of the block. -/
module

public import proofs.«01_k».proof.Proof.Factor
public import proofs.«01_k».proof.Proof.Elimination
public import Idealize.ShloMosaic.Lib.WordCmp

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Matrix hiding transpose

/-- A comparison of small numbers as words, selecting. -/
theorem select_gt {α : Type} {a b : ℕ} (ha : a < 1024) (hb : b < 1024) (x y : α) :
    Scalar.select (IntOp.cmpi .sgt (BitVec.ofNat 32 a) (BitVec.ofNat 32 b)) x y = if b < a then x else y := by
  rw [WordCmp.cmpi_sgt_ofNat (by omega) (by omega)]; simp only [Scalar.select, WordCmp.ofBool_decide_eq_one_iff, BitVec.ofNat_eq_ofNat]
theorem select_ge {α : Type} {a b : ℕ} (ha : a < 1024) (hb : b < 1024) (x y : α) :
    Scalar.select (IntOp.cmpi .sge (BitVec.ofNat 32 a) (BitVec.ofNat 32 b)) x y = if b ≤ a then x else y := by
  rw [WordCmp.cmpi_sge_ofNat (by omega) (by omega)]; simp only [Scalar.select, WordCmp.ofBool_decide_eq_one_iff, BitVec.ofNat_eq_ofNat]
theorem select_le {α : Type} {a b : ℕ} (ha : a < 1024) (hb : b < 1024) (x y : α) :
    Scalar.select (IntOp.cmpi .sle (BitVec.ofNat 32 a) (BitVec.ofNat 32 b)) x y = if a ≤ b then x else y := by
  rw [WordCmp.cmpi_sle_ofNat (by omega) (by omega)]; simp only [Scalar.select, WordCmp.ofBool_decide_eq_one_iff, BitVec.ofNat_eq_ofNat]

/-- The indicator of two small numbers' equality, as a float. -/
theorem unit_word {a b : ℕ} (ha : a < 1024) (hb : b < 1024) :
    FloatOps.sitofp (F := Ideal) FTy.f32 (BitVec.setWidth 32 (IntOp.cmpi .eq (BitVec.ofNat 32 a) (BitVec.ofNat 32 b)))
      = ((if a = b then 1 else 0 : ℝ) : EReal) := by
  rw [WordCmp.cmpi_eq_ofNat (by omega) (by omega)]
  by_cases h : a = b
  · rw [if_pos h, decide_eq_true h]
    show (((1#32 : BitVec 32).toInt : ℝ) : EReal) = _
    norm_num
  · rw [if_neg h, decide_eq_false h]
    show (((0#32 : BitVec 32).toInt : ℝ) : EReal) = _
    norm_num

theorem rsqrt_real {x : ℝ} (h : 0 < x) : Ideal.rsqrt (x : EReal) = (((Real.sqrt x)⁻¹ : ℝ) : EReal) := by
  rw [Ideal.rsqrt_coe, if_neg h.le.not_gt, if_neg h.ne']

variable {d : FVec Ideal S128x128 .f32} {D : Matrix (Fin 128) (Fin 128) ℝ}

/-- The work matrix of `E`: `E D` beside `E`. -/
def beside (D E : Matrix (Fin 128) (Fin 128) ℝ) (r : Fin 128) (c : Fin 256) : ℝ :=
  if h : c.val < 128 then (E * D) r ⟨c.val, h⟩ else E r ⟨c.val - 128, by omega⟩

theorem work_eq (hd : ∀ r c, d (ix2 r c) = (D r c : EReal)) (r : Fin 128) (c : Fin 256) :
    work d (ix2 r c) = (beside D 1 r c : EReal) := by
  unfold work k0_pay13 beside
  pointwise
  split
  · exact hd _ _
  · rw [unit_word (by omega) (by omega), one_apply]
    congr 2
    rw [Fin.ext_iff]; exact propext eq_comm

theorem beside_left (E : Matrix (Fin 128) (Fin 128) ℝ) (r k : Fin 128) (h : k.val < 256) :
    beside D E r ⟨k.val, h⟩ = (E * D) r k := dif_pos k.isLt
theorem beside_right (E : Matrix (Fin 128) (Fin 128) ℝ) (r k : Fin 128) (h : 128 + k.val < 256) :
    beside D E r ⟨128 + k.val, h⟩ = E r k := by
  unfold beside; rw [dif_neg (by simp)]; congr 1; exact Fin.ext (Nat.add_sub_cancel_left ..)

/-- One step on real entries. -/
theorem step_eq {M : FVec Ideal S128x256 .f32} {E : Matrix (Fin 128) (Fin 128) ℝ} (k : Fin 128)
    (hM : ∀ r c, M (ix2 r c) = (beside D E r c : EReal)) (hp : 0 < (E * D) k k) :
    pivotScale k.val M (ix2 0 0) = (((Real.sqrt ((E * D) k k))⁻¹ : ℝ) : EReal) ∧
    ∀ r c, elimStep k.val M (ix2 r c)
      = (beside D (clearStep D k ((Real.sqrt ((E * D) k k))⁻¹ * (Real.sqrt ((E * D) k k))⁻¹) E) r c : EReal) := by
  have hk : k.val % 128 = k.val := Nat.mod_eq_of_lt k.isLt
  have e : ∀ (r : Fin 128) (h), M (ix2 r ⟨k.val % 128, h⟩) = (((E * D) r k : ℝ) : EReal) := by
    intro r h
    rw [hM]; congr 1
    simp only [hk]; exact beside_left E r k _
  have ek : ∀ h : k.val % 128 < 128, (⟨k.val % 128, h⟩ : Fin 128) = k := fun h => Fin.ext hk
  constructor
  · unfold pivotScale pivotCol
    pointwise
    rw [e, ek, rsqrt_real hp]
  · intro r c
    unfold elimStep pivotScale pivotRow pivotCol rowNo
    pointwise
    rw [e, e, ek, rsqrt_real hp, hM, hM, select_gt (by omega) (by omega), hk]
    have hc : beside D (clearStep D k ((Real.sqrt ((E * D) k k))⁻¹ * (Real.sqrt ((E * D) k k))⁻¹) E) r c
        = beside D E r c - (if k < r then (E * D) r k else 0) * ((Real.sqrt ((E * D) k k))⁻¹ * (Real.sqrt ((E * D) k k))⁻¹) * beside D E k c := by
      unfold beside
      split
      · exact clearStep_mul ..
      · rfl
    rw [hc, EReal.coe_sub]
    congr 1
    by_cases h : k < r
    · rw [if_pos (Fin.lt_def.1 h), if_pos h]; push_cast; rfl
    · rw [if_neg (fun hh => h (Fin.lt_def.2 hh)), if_neg h]; simp

/-- All the steps: the matrix stays the work matrix of a clearing `E`, each pivot's scale that of its final row. -/
theorem elim_eq (hD : Positive D) (hd : ∀ r c, d (ix2 r c) = (D r c : EReal)) : ∀ n : ℕ, n ≤ 128 →
    ∃ E, Cleared D E n ∧ (∀ r c, elim (work d) n (ix2 r c) = (beside D E r c : EReal)) ∧
      ∀ j : Fin 128, j.val < n → 0 < (E * D) j j ∧
        pivotScale j.val (elim (work d) j.val) (ix2 0 0) = (((Real.sqrt ((E * D) j j))⁻¹ : ℝ) : EReal)
  | 0, _ => ⟨1, Cleared.start D, work_eq hd, fun _ h => absurd h (Nat.not_lt_zero _)⟩
  | n + 1, hn => by
    obtain ⟨E, hE, hM, hs⟩ := elim_eq hD hd n (by omega)
    have hp := Cleared.pivot_pos hD ⟨n, by omega⟩ hE
    obtain ⟨h1, h2⟩ := step_eq (⟨n, by omega⟩ : Fin 128) hM hp
    refine ⟨_, Cleared.step ⟨n, by omega⟩ hE ?_, h2, fun j hj => ?_⟩
    · rw [← mul_inv, Real.mul_self_sqrt hp.le, inv_mul_cancel₀ hp.ne']
    · rw [clearStep_mul_row _ _ _ _ (Fin.le_def.2 (Nat.lt_succ_iff.1 hj))]
      rcases Nat.lt_succ_iff_lt_or_eq.1 hj with h | h
      · exact hs j h
      · subst h; exact ⟨hp, h1⟩

/-- The stacked scales, row by row. -/
theorem scales_eq (M : FVec Ideal S128x256 .f32) (r : Fin 128) :
    scales M (ix2 r 0) = pivotScale r.val (elim M r.val) (ix2 0 0) := by
  unfold scales
  refine concatenate_ofFn_unit_eq (0 : Fin S128x1.rank) (fun k : Fin 128 => pivotScale k.val (elim M k.val)) _ _ _ rfl rfl ?_
  intro n i hn h0 hb
  obtain rfl : r = n := Fin.ext hn
  congr 1
  funext a
  fin_cases a
  · exact Fin.ext h0
  · exact Fin.ext ((hb 1 (by decide)).trans rfl)

/-- The scaled rows of the eliminated identity whiten the block. -/
theorem rows_whiten (hD : Positive D) (hd : ∀ r c, d (ix2 r c) = (D r c : EReal)) :
    ∃ S, Whitens D S ∧ ∀ r x : Fin 128, ∀ h, scales (work d) (ix2 r 0) * elim (work d) 128 (ix2 r ⟨128 + x.val, h⟩) = (S r x : EReal) := by
  obtain ⟨E, hE, hM, hs⟩ := elim_eq hD hd 128 le_rfl
  refine ⟨_, hE.whitens hD fun i => (hs i i.isLt).1, fun r x h => ?_⟩
  rw [scales_eq, (hs r r.isLt).2, hM, beside_right, ← EReal.coe_mul]

end Cert.Whiten

end
-- ==== Proof.Blocks.lean ====
/- Whitening a positive matrix of two blocks from the whitening of its first block and of its Schur complement, and the
   triangular factor that belongs to a whitening matrix. -/
module

public import proofs.«01_k».proof.Proof.Elimination
public import Mathlib.Data.Matrix.Block

@[expose] public section

noncomputable section

namespace Cert.Whiten

open Matrix

variable {n : ℕ}

section
variable (A11 A12 A22 S1 S2 : Matrix (Fin n) (Fin n) ℝ)

variable {A11 A12 A22 S1 S2}

theorem white_left (h : S1 * A11 * S1ᵀ = 1) : S1ᵀ * S1 * A11 = 1 := by
  rw [Matrix.mul_assoc]
  exact mul_eq_one_comm.1 h

/-- The Schur complement is positive. -/
theorem complement_positive (hA : Positive (fromBlocks A11 A12 A12ᵀ A22)) (hs : A22ᵀ = A22) (h : S1 * A11 * S1ᵀ = 1) :
    Positive (A22 - (S1 * A12)ᵀ * (S1 * A12)) where
  symm := by simp [transpose_mul, hs]
  form v hv := by
    have hr : A11 * (S1ᵀ * (S1 * A12)) = A12 := by
      have : A11 * (S1ᵀ * S1) = 1 := mul_eq_one_comm.1 (white_left h)
      rw [← Matrix.mul_assoc S1ᵀ, ← Matrix.mul_assoc, this, Matrix.one_mul]
    have := hA.form (Sum.elim (-((S1ᵀ * (S1 * A12)) *ᵥ v)) v) fun he => hv (funext fun i => congrFun he (Sum.inr i))
    rw [fromBlocks_mulVec] at this
    simp only [Sum.elim_comp_inl, Sum.elim_comp_inr, mulVec_neg, mulVec_mulVec, hr, neg_add_cancel] at this
    refine this.trans_eq ?_
    simp only [dotProduct, Fintype.sum_sum_type, Sum.elim_inl, Sum.elim_inr, Pi.zero_apply, mul_zero, Finset.sum_const_zero, zero_add]
    refine Finset.sum_congr rfl fun i _ => ?_
    rw [sub_mulVec, transpose_mul, Matrix.mul_assoc, neg_add_eq_sub]

/-- The whitening matrix of the two blocks. -/
theorem blocks_white (h1 : S1 * A11 * S1ᵀ = 1) (h2 : S2 * (A22 - (S1 * A12)ᵀ * (S1 * A12)) * S2ᵀ = 1) :
    fromBlocks S1 0 (-(S2 * (S1 * A12)ᵀ * S1)) S2 * fromBlocks A11 A12 A12ᵀ A22
      * (fromBlocks S1 0 (-(S2 * (S1 * A12)ᵀ * S1)) S2)ᵀ = 1 := by
  have hl := white_left h1
  have e1 : S2 * (S1 * A12)ᵀ * S1 * A11 = S2 * A12ᵀ := by
    rw [transpose_mul, Matrix.mul_assoc, Matrix.mul_assoc, Matrix.mul_assoc, ← Matrix.mul_assoc S1ᵀ, hl, Matrix.mul_one]
  have e2 : -(S2 * (S1 * A12)ᵀ * S1) * A12 + S2 * A22 = S2 * (A22 - (S1 * A12)ᵀ * (S1 * A12)) := by
    rw [Matrix.mul_sub, Matrix.neg_mul, neg_add_eq_sub]; simp only [Matrix.mul_assoc]
  have e3 : S1 * A11 * (-(S2 * (S1 * A12)ᵀ * S1))ᵀ + S1 * A12 * S2ᵀ = 0 := by
    have : (S2 * (S1 * A12)ᵀ * S1)ᵀ = S1ᵀ * (S1 * A12 * S2ᵀ) := by
      rw [transpose_mul, transpose_mul, transpose_transpose]
    rw [transpose_neg, this, Matrix.mul_neg, ← Matrix.mul_assoc, h1, Matrix.one_mul, neg_add_cancel]
  rw [fromBlocks_transpose, fromBlocks_multiply, e2, fromBlocks_multiply, ← fromBlocks_one]
  congr 1
  · rw [Matrix.zero_mul, add_zero, transpose_zero, Matrix.mul_zero, add_zero, h1]
  · rw [Matrix.zero_mul, add_zero, Matrix.zero_mul, add_zero, e3]
  · rw [Matrix.neg_mul, e1, neg_add_cancel, Matrix.zero_mul, transpose_zero, Matrix.mul_zero, add_zero]
  · rw [Matrix.neg_mul, e1, neg_add_cancel, Matrix.zero_mul, zero_add, h2]
end

/-- The two halves of `n + n` rows. -/
def lo (i : Fin n) : Fin (n + n) := Fin.castAdd n i
def hi (i : Fin n) : Fin (n + n) := Fin.natAdd n i
theorem lo_val (i : Fin n) : (lo i).val = i.val := rfl
theorem hi_val (i : Fin n) : (hi i).val = n + i.val := rfl
theorem halves {P : Fin (n + n) → Prop} (h0 : ∀ i, P (lo i)) (h1 : ∀ i, P (hi i)) (i : Fin (n + n)) : P i :=
  Fin.addCases h0 h1 i
theorem sum_halves {M : Type} [AddCommMonoid M] (f : Fin (n + n) → M) : ∑ i, f i = ∑ i, f (lo i) + ∑ i, f (hi i) := Fin.sum_univ_add f

/-- The blocks of a matrix of `n + n` rows. -/
def blk (r c : Fin n → Fin (n + n)) (A : Matrix (Fin (n + n)) (Fin (n + n)) ℝ) : Matrix (Fin n) (Fin n) ℝ := fun i j => A (r i) (c j)

theorem submatrix_blocks (A : Matrix (Fin (n + n)) (Fin (n + n)) ℝ) :
    A.submatrix finSumFinEquiv finSumFinEquiv = fromBlocks (blk lo lo A) (blk lo hi A) (blk hi lo A) (blk hi hi A) := by
  ext i j
  rcases i with i | i <;> rcases j with j | j <;> rfl

theorem Positive.reindexed {ι κ : Type} [Fintype ι] [Fintype κ] {A : Matrix ι ι ℝ} (h : Positive A) (e : κ ≃ ι) :
    Positive (A.submatrix e e) where
  symm := by rw [transpose_submatrix, h.symm]
  form v hv := by
    have := h.form (v ∘ e.symm) fun he => hv (funext fun i => by simpa using congrFun he (e i))
    rw [dotProduct, ← Equiv.sum_comp e] at this
    refine this.trans_eq (Finset.sum_congr rfl fun i _ => ?_)
    rw [mulVec, mulVec, dotProduct, dotProduct, ← Equiv.sum_comp e]
    simp

/-- The first block of a positive matrix is positive. -/
theorem first_positive {A : Matrix (Fin (n + n)) (Fin (n + n)) ℝ} (hA : Positive A) : Positive (blk lo lo A) where
  symm := by ext i j; exact congrFun (congrFun hA.symm _) _
  form v hv := by
    have e0 : ∀ i, Fin.append v (0 : Fin n → ℝ) (lo i) = v i := fun i => Fin.append_left v 0 i
    have e1 : ∀ i, Fin.append v (0 : Fin n → ℝ) (hi i) = 0 := fun i => Fin.append_right v 0 i
    have := hA.form (Fin.append v 0) fun he => hv (funext fun i => by rw [← e0, he]; rfl)
    refine this.trans_eq ?_
    simp only [dotProduct, mulVec, sum_halves, e0, e1, zero_mul, mul_zero, Finset.sum_const_zero, add_zero]
    rfl

theorem symm_blocks {A : Matrix (Fin (n + n)) (Fin (n + n)) ℝ} (hA : Positive A) :
    A.submatrix finSumFinEquiv finSumFinEquiv = fromBlocks (blk lo lo A) (blk lo hi A) (blk lo hi A)ᵀ (blk hi hi A) := by
  rw [submatrix_blocks]; congr 1
  ext i j
  exact congrFun (congrFun hA.symm _) _

/-- The Schur complement of the first block, through the block's whitening matrix. -/
def schur (A : Matrix (Fin (n + n)) (Fin (n + n)) ℝ) (S : Matrix (Fin n) (Fin n) ℝ) : Matrix (Fin n) (Fin n) ℝ :=
  blk hi hi A - (S * blk lo hi A)ᵀ * (S * blk lo hi A)

theorem schur_positive {A : Matrix (Fin (n + n)) (Fin (n + n)) ℝ} (hA : Positive A) {S1 : Matrix (Fin n) (Fin n) ℝ}
    (h1 : Whitens (blk lo lo A) S1) : Positive (schur A S1) := by
  refine complement_positive ?_ ?_ h1.white
  · rw [← symm_blocks hA]; exact hA.reindexed _
  · ext i j; exact congrFun (congrFun hA.symm _) _

/-- The two blocks' whitening matrices make the whole one's. -/
theorem whitens_of_blocks {A W : Matrix (Fin (n + n)) (Fin (n + n)) ℝ} (hA : Positive A) {S1 S2 : Matrix (Fin n) (Fin n) ℝ}
    (h1 : Whitens (blk lo lo A) S1) (h2 : Whitens (schur A S1) S2)
    (w11 : ∀ i j : Fin n, W (lo i) (lo j) = S1 i j) (w12 : ∀ i j : Fin n, W (lo i) (hi j) = 0)
    (w21 : ∀ i j : Fin n, W (hi i) (lo j) = -(S2 * (S1 * blk lo hi A)ᵀ * S1) i j)
    (w22 : ∀ i j : Fin n, W (hi i) (hi j) = S2 i j) : Whitens A W where
  lower i j := by
    induction i using halves with
    | h0 i =>
      induction j using halves with
      | h0 j => exact fun hij => (w11 i j).trans (h1.lower i j hij)
      | h1 j => exact fun _ => w12 i j
    | h1 i =>
      induction j using halves with
      | h0 j => intro hij; have : n + i.val < j.val := hij; have := j.isLt; omega
      | h1 j => exact fun hij => (w22 i j).trans (h2.lower i j (by have : n + i.val < n + j.val := hij; exact Fin.lt_def.2 (by omega)))
  pos i := by
    induction i using halves with
    | h0 i => rw [w11]; exact h1.pos i
    | h1 i => rw [w22]; exact h2.pos i
  white := by
    have hW : W.submatrix finSumFinEquiv finSumFinEquiv = fromBlocks S1 0 (-(S2 * (S1 * blk lo hi A)ᵀ * S1)) S2 := by
      rw [submatrix_blocks]; congr 1
      · ext i j; exact w11 i j
      · ext i j; exact w12 i j
      · ext i j; exact w21 i j
      · ext i j; exact w22 i j
    have := blocks_white h1.white h2.white
    rw [← hW, ← symm_blocks hA, transpose_submatrix, submatrix_mul_equiv, submatrix_mul_equiv] at this
    have h := congrArg (fun M => M.submatrix finSumFinEquiv.symm finSumFinEquiv.symm) this
    simpa using h

/-- A whitening matrix is the inverse of a lower triangular `C` with positive diagonal and `C Cᵀ = A`. -/
theorem Whitens.factor {m : ℕ} {A W : Matrix (Fin m) (Fin m) ℝ} (h : Whitens A W) :
    ∃ C : Matrix (Fin m) (Fin m) ℝ, (∀ i j, i < j → C i j = 0) ∧ (∀ i, 0 < C i i) ∧ C * Cᵀ = A ∧ C * W = 1 := by
  have hWC : W * (A * Wᵀ) = 1 := by rw [← Matrix.mul_assoc]; exact h.white
  have hCW : A * Wᵀ * W = 1 := mul_eq_one_comm.1 hWC
  have hlow : ∀ i j, i < j → (A * Wᵀ) i j = 0 := by
    -- row `i` of `C W = 1`, column by column from the right
    have key : ∀ d : ℕ, ∀ i j : Fin m, m - j.val ≤ d → i < j → (A * Wᵀ) i j = 0 := by
      intro d
      induction d with
      | zero => intro i j hd; have := j.isLt; omega
      | succ d ih =>
        intro i j hd hij
        have e := congrFun (congrFun hCW i) j
        rw [mul_apply, Finset.sum_eq_single j, one_apply_ne hij.ne] at e
        · exact (mul_eq_zero.1 e).resolve_right (h.pos j).ne'
        · intro l _ hl
          rcases lt_or_gt_of_ne hl with hl | hl
          · rw [h.lower l j hl, mul_zero]
          · rw [ih i l (by have := l.isLt; have : j.val < l.val := hl; omega) (hij.trans hl), zero_mul]
        · exact fun hk => absurd (Finset.mem_univ j) hk
    exact fun i j => key _ i j le_rfl
  refine ⟨A * Wᵀ, hlow, fun i => ?_, ?_, hCW⟩
  · have e := congrFun (congrFun hCW i) i
    rw [mul_apply, Finset.sum_eq_single i, one_apply_eq] at e
    · have hp := h.pos i
      by_contra hn
      nlinarith [not_lt.1 hn]
    · intro l _ hl
      rcases lt_or_gt_of_ne hl with hl | hl
      · rw [h.lower l i hl, mul_zero]
      · rw [hlow i l hl, zero_mul]
    · exact fun hk => absurd (Finset.mem_univ i) hk
  · -- `Cᵀ = W Aᵀ` is inverse to `Wᵀ`
    have hT : W * Aᵀ * Wᵀ = 1 := by
      have := congrArg transpose h.white
      simpa [transpose_mul, Matrix.mul_assoc] using this
    have hT' : Wᵀ * (W * Aᵀ) = 1 := mul_eq_one_comm.1 hT
    rw [transpose_mul, transpose_transpose, Matrix.mul_assoc, hT', Matrix.mul_one]

end Cert.Whiten

end
-- ==== Proof.FactorValue.lean ====
/- The kernel's inverse factor over extended reals: where the covariance's entries are a positive definite real
   matrix's, the right half of the factors' buffer is a real whitening matrix of it. -/
module

public import proofs.«01_k».proof.Proof.Lift
public import proofs.«01_k».proof.Proof.Blocks

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Matrix hiding transpose

/-- A sum of real products, over extended reals. -/
theorem coe_dot {n : ℕ} (f g : Fin n → ℝ) : ∑ x, ((f x : ℝ) : EReal) * ((g x : ℝ) : EReal) = ((∑ x, f x * g x : ℝ) : EReal) := by
  induction n with
  | zero => simp
  | succ n ih => rw [Fin.sum_univ_succ, Fin.sum_univ_succ, ih (fun x => f x.succ) (fun x => g x.succ), EReal.coe_add, EReal.coe_mul]

/-- A product of a row and a column, whatever real numbers its terms are known to be. -/
theorem dot_of {n : ℕ} {a b : Fin n → EReal} {f g : Fin n → ℝ} (ha : ∀ x, a x = (f x : EReal)) (hb : ∀ x, b x = (g x : EReal)) :
    ∑ x, a x * b x = ((∑ x, f x * g x : ℝ) : EReal) := by
  rw [← coe_dot]; exact Finset.sum_congr rfl fun x _ => by rw [ha, hb]

/-- A slab through a diagonal block's whitening matrix. -/
theorem rowsThrough_left {M s p : FVec Ideal S128x256 .f32} {S : Matrix (Fin 128) (Fin 128) ℝ}
    (hS : ∀ r x : Fin 128, ∀ h, scales M (ix2 r 0) * elim M 128 (ix2 r ⟨128 + x.val, h⟩) = (S r x : EReal))
    (c : Fin 512) (hc : c.val < 256) (q : Fin 128 → ℝ) (hq : ∀ x : Fin 128, s (ix2 x ⟨c.val, hc⟩) = (q x : EReal)) (r : Fin 128) :
    rowsThrough M s p (ix2 r c) = ((∑ x, S r x * q x : ℝ) : EReal) := by
  unfold rowsThrough
  pointwise
  refine dot_of (hS r · _) fun x => ?_
  rw [dif_pos hc]; exact hq x
theorem rowsThrough_right {M s p : FVec Ideal S128x256 .f32} {S : Matrix (Fin 128) (Fin 128) ℝ}
    (hS : ∀ r x : Fin 128, ∀ h, scales M (ix2 r 0) * elim M 128 (ix2 r ⟨128 + x.val, h⟩) = (S r x : EReal))
    (c : Fin 256) (q : Fin 128 → ℝ) (hq : ∀ x : Fin 128, p (ix2 x c) = (q x : EReal)) (r : Fin 128) :
    rowsThrough M s p (ix2 r ⟨256 + c.val, by omega⟩) = ((∑ x, S r x * q x : ℝ) : EReal) := by
  unfold rowsThrough
  pointwise
  refine dot_of (hS r · _) fun x => ?_
  exact hq x

/-- The masks, read where a column is at or after the row, and in the right half. -/
theorem masked_left (j : ℕ) (hj : j ≤ 128) (u : FVec Ideal S128x512 .f32) (r : Fin 128) (c : Fin 512) (hc : c.val < 256)
    (hrc : r.val + j ≤ c.val) : masked (BitVec.ofNat 32 j) u (ix2 r c) = u (ix2 r c) := by
  unfold masked colAt rowAt rowNo colNo
  pointwise
  rw [dif_pos hc, IntOp.addi, ← BitVec.ofNat_add, select_ge (by omega) (by omega), if_pos hrc]
theorem masked_right (j : ℕ) (hj : j ≤ 128) (u : FVec Ideal S128x512 .f32) (r : Fin 128) (c : Fin 256) :
    masked (BitVec.ofNat 32 j) u (ix2 r ⟨256 + c.val, by omega⟩)
      = if c.val ≤ r.val + j then u (ix2 r ⟨256 + c.val, by omega⟩) else 0 := by
  unfold masked colAt rowAt rowNo colNo
  pointwise
  rw [IntOp.addi, ← BitVec.ofNat_add]
  exact select_le (a := c.val) (b := r.val + j) (by omega) (by omega) _ _
theorem unitRows_eq (j : ℕ) (hj : j ≤ 128) (r : Fin 128) (c : Fin 256) :
    unitRows (F := Ideal) (BitVec.ofNat 32 j) (ix2 r c) = ((if c.val = r.val + j then 1 else 0 : ℝ) : EReal) := by
  unfold unitRows colAt rowAt rowNo colNo
  pointwise
  rw [IntOp.addi, ← BitVec.ofNat_add, unit_word (by omega) (by omega)]

variable {g : FVec Ideal S256x256 .f32} {s : FVec Ideal S1x256 .f32}

/-- The factors' buffer after the first store, and after the second. -/
theorem factors1_top (r : Fin 128) (c : Fin 512) (h : r.val < 256) : factors1 g s (ix2 (⟨r.val, h⟩ : Fin 256) c) = firstRows (covRows0 g s) (ix2 r c) := by
  unfold factors1 storesOne
  refine Eq.trans (congrArg _ (funext fun a => ?_)) (View.canon_cons_emb (Val := Elt Ideal) (e := .f32) (s := S256x512) (Rect.unit (s := S256x512) ![0, 0] S128x512.size inb_S256x512_S128x512_0_0) (firstRows (covRows0 g s)) storesZero (ix2 r c))
  apply Fin.ext
  fin_cases a <;> simp [Rect.emb, Rect.unit, ix2]
theorem factors2_low (r : Fin 128) (c : Fin 512) (h : 128 + r.val < 256) :
    factors2 g s (ix2 (⟨128 + r.val, h⟩ : Fin 256) c) = secondRows (covRows1 g s) (upperCols g s) (factors1 g s) (ix2 r c) := by
  unfold factors2 storesTwo
  refine Eq.trans (congrArg _ (funext fun a => ?_)) (View.canon_cons_emb (Val := Elt Ideal) (e := .f32) (s := S256x512) (Rect.unit (s := S256x512) ![128, 0] S128x512.size inb_S256x512_S128x512_128_0) (secondRows (covRows1 g s) (upperCols g s) (factors1 g s)) (storesOne g s) (ix2 r c))
  apply Fin.ext
  fin_cases a <;> simp [Rect.emb, Rect.unit, ix2]
theorem factors1_low (r : Fin 128) (c : Fin 512) (h : 128 + r.val < 256) : factors1 g s (ix2 (⟨128 + r.val, h⟩ : Fin 256) c) = 0 := by
  unfold factors1 storesOne
  rw [View.canon_cons_of_not_mem _ _ (by mem_blk; exact fun hm => absurd (hm 0).2 (by simp [ix2]))]
  unfold storesZero
  refine Eq.trans (Eq.trans (congrArg _ (funext fun a => ?_)) (View.canon_cons_emb (Val := Elt Ideal) (e := .f32) (s := S256x512) (Rect.unit (s := S256x512) ![0, 0] S256x512.size inb_S256x512_S256x512_0_0) (k0_pay12 (F := Ideal)) [] (ix2 (⟨128 + r.val, h⟩ : Fin 256) c))) ?_
  · apply Fin.ext
    fin_cases a <;> simp [Rect.emb, Rect.unit, ix2]
  · unfold k0_pay12
    pointwise
theorem factors2_top (r : Fin 128) (c : Fin 512) (h : r.val < 256) :
    factors2 g s (ix2 (⟨r.val, h⟩ : Fin 256) c) = firstRows (covRows0 g s) (ix2 r c) := by
  rw [← factors1_top r c h]
  unfold factors2 storesTwo factors1
  rw [View.canon_cons_of_not_mem _ _ (by mem_blk; exact fun hm => absurd (hm 0).1 (by simp [ix2]))]

theorem covRows0_eq (r : Fin 128) (c : Fin 256) : covRows0 g s (ix2 r c) = k0_pay11 g s (ix2 (lo r) c) := by
  unfold covRows0
  refine congrArg _ (funext fun a => Fin.ext ?_)
  fin_cases a <;> simp [LoadRect.idx, Rect.unit, Rect.toLoadRect, ix2, lo]
theorem covRows1_eq (r : Fin 128) (c : Fin 256) : covRows1 g s (ix2 r c) = k0_pay11 g s (ix2 (hi r) c) := by
  unfold covRows1
  refine congrArg _ (funext fun a => Fin.ext ?_)
  fin_cases a <;> simp [LoadRect.idx, Rect.unit, Rect.toLoadRect, ix2, hi, Nat.add_comm]
theorem upperCols_eq (r : Fin 256) (c : Fin 128) : upperCols g s (ix2 r c) = factors1 g s (ix2 r ⟨128 + c.val, by omega⟩) := by
  unfold upperCols
  refine congrArg _ (funext fun a => Fin.ext ?_)
  fin_cases a <;> simp [LoadRect.idx, Rect.unit, Rect.toLoadRect, ix2]
theorem inverseFactor_eq (r : Fin 256) (c : Fin 256) : inverseFactor g s (ix2 r c) = factors2 g s (ix2 r ⟨256 + c.val, by omega⟩) := by
  unfold inverseFactor
  refine congrArg _ (funext fun a => Fin.ext ?_)
  fin_cases a <;> simp [LoadRect.idx, Rect.unit, Rect.toLoadRect, ix2]

variable {A : Matrix (Fin (128 + 128)) (Fin (128 + 128)) ℝ}

/-- The first 128 rows: beside the first block's factor its rows through the matrix's upper right block, and the
    whitening matrix itself in the right half. -/
theorem first_whiten (hA : Positive A) (hk : ∀ i j : Fin (128 + 128), k0_pay11 (F := Ideal) g s (ix2 i j) = (A i j : EReal)) :
    ∃ S, Whitens (blk lo lo A) S
      ∧ (∀ r x : Fin 128, firstRows (covRows0 g s) (ix2 r ⟨128 + x.val, by omega⟩) = ((S * blk lo hi A) r x : EReal))
      ∧ (∀ r x : Fin 128, firstRows (covRows0 g s) (ix2 r ⟨256 + x.val, by omega⟩) = (S r x : EReal))
      ∧ ∀ r x : Fin 128, firstRows (covRows0 g s) (ix2 r ⟨256 + (128 + x.val), by omega⟩) = 0 := by
  obtain ⟨S, hS, he⟩ := rows_whiten (first_positive hA)
    (d := extractStridedSlice S128x128 ![0, 0] (covRows0 g s) slices_S128x256_o0_0_S128x128) fun r c => by
      pointwise
      rw [covRows0_eq]; exact hk (lo r) (lo c)
  refine ⟨S, hS, fun r x => ?_, fun r x => ?_, fun r x => ?_⟩
  · unfold firstRows
    rw [masked_left 0 (by omega) _ r _ (by simp; omega) (by simp; omega),
      rowsThrough_left he _ (by simp; omega) (fun y => A (lo y) (hi x)) fun y => by rw [covRows0_eq]; exact hk (lo y) (hi x)]
    rfl
  · unfold firstRows
    have := masked_right 0 (by omega) (rowsThrough (work (extractStridedSlice S128x128 ![0, 0] (covRows0 g s) slices_S128x256_o0_0_S128x128)) (covRows0 g s) (unitRows 0#32)) r (lo x)
    rw [rowsThrough_right he (lo x) _ (fun y => unitRows_eq 0 (by omega) y (lo x)) r] at this
    refine this.trans ?_
    simp only [lo_val, add_zero, ← Fin.ext_iff, mul_ite, mul_one, mul_zero, Finset.sum_ite_eq, Finset.mem_univ, if_true]
    split_ifs with h
    · rfl
    · rw [hS.lower r x (Fin.lt_def.2 (by omega))]; rfl
  · unfold firstRows
    have := masked_right 0 (by omega) (rowsThrough (work (extractStridedSlice S128x128 ![0, 0] (covRows0 g s) slices_S128x256_o0_0_S128x128)) (covRows0 g s) (unitRows 0#32)) r (hi x)
    refine this.trans (if_neg ?_)
    rw [hi_val]; omega

/-- A product down the rows of the first factor, of which only the first 128 are not zero. -/
theorem correction_eq {P : Matrix (Fin 128) (Fin 128) ℝ} (h0 : ∀ x r : Fin 128, upperCols g s (ix2 (lo x) r) = (P x r : EReal))
    (h1 : ∀ x r : Fin 128, upperCols g s (ix2 (hi x) r) = 0) (c : Fin 512) (q : Fin 128 → ℝ)
    (hq : ∀ x : Fin 128, factors1 g s (ix2 (lo x) c) = (q x : EReal)) (r : Fin 128) :
    correction (upperCols g s) (factors1 g s) (ix2 r c) = ((∑ x, P x r * q x : ℝ) : EReal) := by
  have e : correction (upperCols g s) (factors1 g s) (ix2 r c) = ∑ x : Fin (128 + 128), upperCols g s (ix2 x r) * factors1 g s (ix2 x c) := by
    unfold correction
    pointwise
  rw [e, sum_halves, dot_of (fun x => h0 x r) hq]
  simp only [h1, zero_mul, Finset.sum_const_zero, add_zero]

/-- **The kernel's inverse factor whitens.** -/
theorem inverse_whitens (hA : Positive A) (hk : ∀ i j : Fin (128 + 128), k0_pay11 (F := Ideal) g s (ix2 i j) = (A i j : EReal)) :
    ∃ W, Whitens A W ∧ ∀ i j : Fin (128 + 128), inverseFactor g s (ix2 i j) = (W i j : EReal) := by
  obtain ⟨S, hS, hU, hL, hZ⟩ := first_whiten hA hk
  have u0 : ∀ x r : Fin 128, upperCols g s (ix2 (lo x) r) = ((S * blk lo hi A) x r : EReal) := fun x r => by
    rw [upperCols_eq]; exact (factors1_top x _ (by omega)).trans (hU x r)
  have u1 : ∀ x r : Fin 128, upperCols g s (ix2 (hi x) r) = 0 := fun x r => by
    rw [upperCols_eq]; exact factors1_low x _ (by omega)
  have cU : ∀ r x : Fin 128, correction (upperCols g s) (factors1 g s) (ix2 r ⟨128 + x.val, by omega⟩)
      = (((S * blk lo hi A)ᵀ * (S * blk lo hi A)) r x : EReal) := fun r x =>
    correction_eq u0 u1 _ (fun y => (S * blk lo hi A) y x) (fun y => (factors1_top y _ (by omega)).trans (hU y x)) r
  have cL : ∀ r x : Fin 128, correction (upperCols g s) (factors1 g s) (ix2 r ⟨256 + x.val, by omega⟩)
      = (((S * blk lo hi A)ᵀ * S) r x : EReal) := fun r x =>
    correction_eq u0 u1 _ (fun y => S y x) (fun y => (factors1_top y _ (by omega)).trans (hL y x)) r
  have cZ : ∀ r x : Fin 128, correction (upperCols g s) (factors1 g s) (ix2 r ⟨256 + (128 + x.val), by omega⟩) = ((0 : ℝ) : EReal) := fun r x =>
    (correction_eq u0 u1 _ (fun _ => 0) (fun y => (factors1_top y _ (by omega)).trans (hZ y x)) r).trans (by simp)
  obtain ⟨S2, hS2, he⟩ := rows_whiten (schur_positive hA hS)
    (d := extractStridedSlice S128x128 ![0, 128] (slabLeft (covRows1 g s) (upperCols g s) (factors1 g s)) slices_S128x256_o0_128_S128x128) fun r c => by
      unfold slabLeft
      pointwise
      refine (congrArg₂ (· - ·) ((covRows1_eq r ⟨128 + c.val, by omega⟩).trans (hk (hi r) (hi c))) (cU r c)).trans ?_
      exact (EReal.coe_sub _ _).symm
  -- the second slab's right half, through the Schur complement's whitening matrix
  have sL : ∀ r x : Fin 128, slabRight (upperCols g s) (factors1 g s) (ix2 r (lo x)) = ((-((S * blk lo hi A)ᵀ * S) r x : ℝ) : EReal) := fun r x => by
    unfold slabRight
    pointwise
    refine (congrArg₂ (· - ·) (unitRows_eq 128 (by omega) r (lo x)) (cL r x)).trans ?_
    rw [if_neg (by rw [lo_val]; omega), ← EReal.coe_sub, zero_sub]
  have sH : ∀ r x : Fin 128, slabRight (upperCols g s) (factors1 g s) (ix2 r (hi x)) = ((if x = r then 1 else 0 : ℝ) : EReal) := fun r x => by
    unfold slabRight
    pointwise
    refine (congrArg₂ (· - ·) (unitRows_eq 128 (by omega) r (hi x)) (cZ r x)).trans ?_
    rw [← EReal.coe_sub, sub_zero, hi_val]
    simp only [Nat.add_comm r.val 128, Nat.add_left_cancel_iff, Fin.ext_iff]
  have row : ∀ (r : Fin 128) (c : Fin 256) (q : Fin 128 → ℝ),
      (∀ y, slabRight (upperCols g s) (factors1 g s) (ix2 y c) = (q y : EReal)) →
      inverseFactor g s (ix2 (hi r) c) = if c.val ≤ r.val + 128 then ((∑ y, S2 r y * q y : ℝ) : EReal) else 0 := fun r c q hq => by
    rw [inverseFactor_eq]
    refine (factors2_low r _ (by omega)).trans ?_
    unfold secondRows
    refine (masked_right 128 (by omega) _ r c).trans (if_congr Iff.rfl (rowsThrough_right he c q hq r) rfl)
  have top : ∀ (r : Fin 128) (c : Fin 256), inverseFactor g s (ix2 (lo r) c) = firstRows (covRows0 g s) (ix2 r ⟨256 + c.val, by omega⟩) :=
    fun r c => (inverseFactor_eq _ c).trans (factors2_top r _ (by omega))
  have b11 : ∀ i j : Fin 128, inverseFactor g s (ix2 (lo i) (lo j)) = (S i j : EReal) := fun i j => (top i (lo j)).trans (hL i j)
  have b12 : ∀ i j : Fin 128, inverseFactor g s (ix2 (lo i) (hi j)) = ((0 : ℝ) : EReal) := fun i j => (top i (hi j)).trans (hZ i j)
  have b21 : ∀ i j : Fin 128, inverseFactor g s (ix2 (hi i) (lo j)) = ((-(S2 * (S * blk lo hi A)ᵀ * S) i j : ℝ) : EReal) := fun i j => by
    rw [row i (lo j) _ (fun y => sL y j), if_pos (by rw [lo_val]; omega), Matrix.mul_assoc]
    simp only [mul_neg, Finset.sum_neg_distrib]
    rfl
  have b22 : ∀ i j : Fin 128, inverseFactor g s (ix2 (hi i) (hi j)) = (S2 i j : EReal) := fun i j => by
    rw [row i (hi j) _ (fun y => sH y j)]
    simp only [mul_ite, mul_one, mul_zero, Finset.sum_ite_eq, Finset.mem_univ, if_true, hi_val]
    split_ifs with h
    · rfl
    · rw [hS2.lower i j (Fin.lt_def.2 (by omega))]; rfl
  refine ⟨fun i j => (inverseFactor g s (ix2 i j)).toReal, whitens_of_blocks hA hS hS2 (fun i j => ?_) (fun i j => ?_) (fun i j => ?_)
    (fun i j => ?_), fun i j => ?_⟩
  · exact (congrArg _ (b11 i j)).trans (EReal.toReal_coe _)
  · exact (congrArg _ (b12 i j)).trans (EReal.toReal_coe _)
  · exact (congrArg _ (b21 i j)).trans (EReal.toReal_coe _)
  · exact (congrArg _ (b22 i j)).trans (EReal.toReal_coe _)
  · have real : ∀ e : EReal, (∃ x : ℝ, e = x) → e = (e.toReal : EReal) := by
      rintro _ ⟨x, rfl⟩; rw [EReal.toReal_coe]
    refine real _ ?_
    induction i using halves with
    | h0 i =>
      induction j using halves with
      | h0 j => exact ⟨_, b11 i j⟩
      | h1 j => exact ⟨_, b12 i j⟩
    | h1 i =>
      induction j using halves with
      | h0 j => exact ⟨_, b21 i j⟩
      | h1 j => exact ⟨_, b22 i j⟩

end Cert.Whiten

end
-- ==== Proof.Covariance.lean ====
/- The regularized covariance of real rows: the sum of the products of deviations from the mean is the sum of the products
   less the mean's, and the matrix is positive. -/
module

public import proofs.«01_k».proof.Proof.Elimination

@[expose] public section

noncomputable section

namespace Cert.Whiten

open Matrix

variable {n k : ℕ}

/-- The rows' mean. -/
def mean (f : Fin n → Fin k → ℝ) (i : Fin k) : ℝ := (∑ r, f r i) * (1 / n)

/-- Their covariance, shrunk towards the identity. -/
def cov (α β : ℝ) (f : Fin n → Fin k → ℝ) : Matrix (Fin k) (Fin k) ℝ := fun i j =>
  α * ((∑ r, (f r i - mean f i) * (f r j - mean f j)) * (1 / ((n : ℝ) - 1))) + β * (if i = j then 1 else 0)

/-- The products of deviations, summed, by the sums of the products and of the rows. -/
theorem sum_deviations (hn : 0 < n) (f : Fin n → Fin k → ℝ) (i j : Fin k) :
    ∑ r, (f r i - mean f i) * (f r j - mean f j) = ∑ r, f r i * f r j - n * (mean f i * mean f j) := by
  have hN : (n : ℝ) ≠ 0 := Nat.cast_ne_zero.2 hn.ne'
  have hs : ∀ i, ∑ r, f r i = n * mean f i := fun i => by unfold mean; field_simp
  have e : ∀ r, (f r i - mean f i) * (f r j - mean f j) = f r i * f r j - (f r i * mean f j + mean f i * f r j) + mean f i * mean f j := fun r => by ring
  simp only [e, Finset.sum_add_distrib, Finset.sum_sub_distrib, ← Finset.sum_mul, ← Finset.mul_sum, hs, Finset.sum_const, Finset.card_univ, Fintype.card_fin, nsmul_eq_mul]
  ring

/-- The regularized covariance by the sums of the products and of the rows. -/
theorem cov_of_sums {α β N : ℝ} (hn : 0 < n) (hN : (n : ℝ) = N) (f : Fin n → Fin k → ℝ) (i j : Fin k) :
    cov α β f i j = α * ((∑ r, f r i * f r j - N * ((∑ r, f r i) * (1 / N) * ((∑ r, f r j) * (1 / N)))) * (1 / (N - 1)))
      + β * (if i = j then 1 else 0) := by
  subst hN
  unfold cov
  rw [sum_deviations hn]
  rfl

/-- The rows whitened: each deviation from the mean, multiplied by `W`. -/
def whitened (W : Matrix (Fin k) (Fin k) ℝ) (f : Fin n → Fin k → ℝ) (r : Fin n) (i : Fin k) : ℝ := ∑ x, W i x * (f r x - mean f x)

/-- The mean may be subtracted after the product. -/
theorem whitened_bias (W : Matrix (Fin k) (Fin k) ℝ) (f : Fin n → Fin k → ℝ) (r : Fin n) (i : Fin k) :
    whitened W f r i = ∑ x, f r x * W i x - ∑ x, mean f x * W i x := by
  unfold whitened
  rw [← Finset.sum_sub_distrib]
  exact Finset.sum_congr rfl fun x _ => by ring

/-- The regularized covariance is positive. -/
theorem cov_positive {α β : ℝ} (hα : 0 ≤ α) (hβ : 0 < β) (hn : 1 < n) (f : Fin n → Fin k → ℝ) : Positive (cov α β f) where
  symm := by
    ext i j
    simp only [transpose_apply, cov, eq_comm (a := j) (b := i)]
    congr 3
    exact Finset.sum_congr rfl fun r _ => mul_comm _ _
  form v hv := by
    have hn' : (0 : ℝ) ≤ 1 / ((n : ℝ) - 1) := by
      have : (1 : ℝ) < n := by exact_mod_cast hn
      exact one_div_nonneg.2 (by linarith)
    have e : v ⬝ᵥ (cov α β f *ᵥ v) = α * (1 / ((n : ℝ) - 1)) * ∑ r, (∑ i, v i * (f r i - mean f i)) ^ 2 + β * ∑ i, v i ^ 2 := by
      have hq : ∀ r, (∑ i, v i * (f r i - mean f i)) ^ 2 = ∑ i, ∑ j, v i * ((f r i - mean f i) * (f r j - mean f j)) * v j := fun r => by
        rw [sq, Finset.sum_mul_sum]
        exact Finset.sum_congr rfl fun i _ => Finset.sum_congr rfl fun j _ => by ring
      have hc : ∑ r, (∑ i, v i * (f r i - mean f i)) ^ 2 = ∑ i, ∑ j, v i * (∑ r, (f r i - mean f i) * (f r j - mean f j)) * v j := by
        simp only [hq]
        rw [Finset.sum_comm]
        refine Finset.sum_congr rfl fun i _ => ?_
        rw [Finset.sum_comm]
        refine Finset.sum_congr rfl fun j _ => ?_
        rw [Finset.mul_sum, Finset.sum_mul]
      rw [hc]
      simp only [dotProduct, mulVec, cov, Finset.mul_sum]
      rw [← Finset.sum_add_distrib]
      refine Finset.sum_congr rfl fun i _ => ?_
      have hd : β * v i ^ 2 = ∑ j, v i * (β * (if i = j then 1 else 0) * v j) := by
        simp only [mul_ite, mul_one, mul_zero, ite_mul, zero_mul, Finset.sum_ite_eq, Finset.mem_univ, if_true]
        ring
      rw [hd, ← Finset.sum_add_distrib]
      refine Finset.sum_congr rfl fun j _ => ?_
      simp only [← Finset.mul_sum]
      ring
    rw [e]
    have h0 : 0 < ∑ i, v i ^ 2 := by
      obtain ⟨i, hi⟩ := Function.ne_iff.1 hv
      exact Finset.sum_pos' (fun i _ => sq_nonneg _) ⟨i, Finset.mem_univ i, lt_of_le_of_ne (sq_nonneg _) (Ne.symm (pow_ne_zero 2 hi))⟩
    have h1 : 0 ≤ ∑ r, (∑ i, v i * (f r i - mean f i)) ^ 2 := Finset.sum_nonneg fun r _ => sq_nonneg _
    have := mul_pos hβ h0
    have := mul_nonneg (mul_nonneg hα hn') h1
    linarith

end Cert.Whiten

end
-- ==== Proof.Literals.lean ====
/- The programs' literals as reals, and sums of reals over extended reals. -/
module

public import proofs.«01_k».proof.Proof.FactorValue

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A sum of real terms, over extended reals. -/
theorem sum_of {n : ℕ} {a : Fin n → EReal} {f : Fin n → ℝ} (ha : ∀ x, a x = (f x : EReal)) : ∑ x, a x = ((∑ x, f x : ℝ) : EReal) := by
  have := dot_of (b := fun _ => 1) (g := fun _ => 1) ha fun _ => rfl
  simpa using this

/-- The weight of the covariance, the word of 0.999. -/
def weight : ℝ := 16760439 / 16777216
/-- The weight of the identity, the word of 0.001. -/
def ridge : ℝ := 8589935 / 8589934592

theorem weight_word : Ideal.ofBits .f32 1065336439#32 = (weight : EReal) := by
  simp [Ideal.ofBits, Ideal.ieee, -EReal.coe_mul, weight]; norm_num
theorem ridge_word : Ideal.ofBits .f32 981668463#32 = (ridge : EReal) := by
  simp [Ideal.ofBits, Ideal.ieee, -EReal.coe_mul, ridge]; norm_num
theorem rows_word : Ideal.ofBits .f32 1207959552#32 = ((131072 : ℝ) : EReal) := by
  simp [Ideal.ofBits, Ideal.ieee, -EReal.coe_mul]; norm_num

end Cert.Whiten

end
-- ==== Proof.Rows.lean ====
/- The images' pixels as rows: the row numbers of the flattened argument. -/
module

public import proofs.«01_k».proof.Proof.Lift

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The images, by pixel and channel and channel first; the rows, and the rows transposed. -/
abbrev Images : Shape := ⟨4, ![32, 64, 64, 256]⟩
abbrev Planes : Shape := ⟨4, ![256, 32, 64, 64]⟩
abbrev Rows : Shape := ⟨2, ![131072, 256]⟩
abbrev Columns : Shape := ⟨2, ![256, 131072]⟩

/-- Row `r` at channel `i`, and the number of a pixel's row. -/
def rowOf {α : Type} (x : Images.Idx → α) (r : Fin 131072) (i : Fin 256) : α :=
  x (ix4 ⟨r.val / 4096, by omega⟩ ⟨r.val / 64 % 64, by omega⟩ ⟨r.val % 64, by omega⟩ i)
def pixel (a : Fin 32) (b d : Fin 64) : Fin 131072 := ⟨(a.val * 64 + b.val) * 64 + d.val, by omega⟩

variable {α : Type}

theorem rows_flat (x : Images.Idx → α) (h : Images.ShapeCasts Rows) (r : Fin 131072) (i : Fin 256) : shapeCast Rows x h (ix2 r i) = rowOf x r i := by
  refine shapeCast_apply x h _ _ ?_
  rw [Shape.rowMajor_val_four, Shape.rowMajor_val_two]
  simp [ix4, ix2]
  omega
theorem rows_unflat (y : Rows.Idx → α) (h : Rows.ShapeCasts Images) (a : Fin 32) (b d : Fin 64) (i : Fin 256) :
    shapeCast Images y h (ix4 a b d i) = y (ix2 (pixel a b d) i) := by
  refine shapeCast_apply y h _ _ ?_
  rw [Shape.rowMajor_val_four, Shape.rowMajor_val_two]
  simp [ix4, ix2, pixel]
theorem columns_flat (x : Planes.Idx → α) (h : Planes.ShapeCasts Columns) (r : Fin 131072) (i : Fin 256) :
    shapeCast Columns x h (ix2 i r) = x (ix4 i ⟨r.val / 4096, by omega⟩ ⟨r.val / 64 % 64, by omega⟩ ⟨r.val % 64, by omega⟩) := by
  refine shapeCast_apply x h _ _ ?_
  rw [Shape.rowMajor_val_four, Shape.rowMajor_val_two]
  simp [ix4, ix2]
  omega
theorem columns_unflat (y : Columns.Idx → α) (h : Columns.ShapeCasts Planes) (a : Fin 32) (b d : Fin 64) (i : Fin 256) :
    shapeCast Planes y h (ix4 i a b d) = y (ix2 i (pixel a b d)) := by
  refine shapeCast_apply y h _ _ ?_
  rw [Shape.rowMajor_val_four, Shape.rowMajor_val_two]
  simp [ix4, ix2, pixel]
  omega

end Cert.Whiten

end
-- ==== Proof.KernelValue.lean ====
/- The kernel's result over extended reals: each row of the argument less the mean, through the inverse factor. -/
module

public import proofs.«01_k».proof.Proof.Region
public import proofs.«01_k».proof.Proof.FactorValue
public import proofs.«01_k».proof.Proof.Covariance
public import proofs.«01_k».proof.Proof.Literals
public import proofs.«01_k».proof.Proof.Rows
public import Idealize.ShloMosaic.Lib.StableHlo.RunRead

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Matrix hiding transpose

variable (m : (ℓ : Loc nD τ sig) → Buf (Elt Ideal) ℓ)

/-- The flattened argument, as the region finds it. -/
theorem entry_rows (c : Dev nD) (r : Fin 131072) (i : Fin 256) :
    (V m c main_v0 : FVec Ideal S131072x256 .f32) (ix2 r i) = rowOf (m ((c : Thread nD τ).loc main_arg0)) r i := by
  have e : V m c main_v0 = shapeCast S131072x256 (m ((c : Thread nD τ).loc main_arg0)) shapeCasts_S32x64x64x256_S131072x256 := rfl
  rw [e]
  exact rows_flat _ _ r i

theorem index_gather : ∀ t : Fin cfg0.N, t.val < 32 → win0_0.index t = ![t.val, 0] := by decide +kernel
theorem index_write : ∀ t : Fin cfg0.N, 33 ≤ t.val → win0_0.index t = ![t.val - 33, 0] ∧ win0_1.index t = ![t.val - 33, 0] := by decide +kernel
theorem flush_write : ∀ t : Fin cfg0.N, (cfg0.win 1).flush t = true → 33 ≤ t.val := by decide +kernel

/-- A block's rows, by the point that reads it. -/
theorem block_rows (c : Dev nD) (t : Fin cfg0.N) {b : ℕ} (hb : b < 32) (e : win0_0.index t = ![b, 0]) (x : Fin 4096) (i : Fin 256) :
    (iblk m c 0 t : FVec Ideal S4096x256 .f32) (ix2 x i) = rowOf (m ((c : Thread nD τ).loc main_arg0)) ⟨b * 4096 + x.val, by omega⟩ i := by
  rw [← entry_rows]
  blk_ext [iblk, e]

/-! ## The accumulators -/

/-- The sum of the first `n` blocks of rows. -/
def upto (f : Fin 131072 → ℝ) (n : ℕ) : ℝ := ∑ r ∈ Finset.range (n * 4096), if h : r < 131072 then f ⟨r, h⟩ else 0
theorem upto_zero (f : Fin 131072 → ℝ) : upto f 0 = 0 := by simp [upto]
theorem upto_succ (f : Fin 131072 → ℝ) {n : ℕ} (hn : n < 32) : upto f (n + 1) = upto f n + ∑ x : Fin 4096, f ⟨n * 4096 + x.val, by omega⟩ := by
  unfold upto
  rw [Nat.succ_mul, Finset.sum_range_add, Finset.sum_range (n := 4096)]
  congr 1
  exact Finset.sum_congr rfl fun x _ => dif_pos (by omega)
theorem upto_all (f : Fin 131072 → ℝ) : upto f 32 = ∑ r, f r := by
  unfold upto
  rw [Finset.sum_range]
  exact Finset.sum_congr rfl fun x _ => dif_pos x.isLt

variable {m} {c : Dev nD} {f : Fin 131072 → Fin 256 → ℝ}

theorem gram_value (hx : ∀ r i, rowOf (m ((c : Thread nD τ).loc main_arg0)) r i = (f r i : EReal)) (i j : Fin 256) :
    ∀ n ≤ 32, (gramAfter m c n : FVec Ideal S256x256 .f32) (ix2 i j) = ((upto (fun r => f r i * f r j) n : ℝ) : EReal)
  | 0, _ => by
    rw [upto_zero]
    unfold gramAfter k0_pay1
    pointwise
    exact EReal.coe_zero.symm
  | n + 1, hn => by
    have ht : n < cfg0.N := (show n < 65 by omega)
    have hb := fun x i => (block_rows m c ⟨n, ht⟩ (show n < 32 by omega) (index_gather ⟨n, ht⟩ (show n < 32 by omega)) x i).trans (hx _ i)
    rw [upto_succ _ (by omega), EReal.coe_add, ← gram_value hx i j n (by omega), gramAfter_succ m c ⟨n, ht⟩,
      ← dot_of (fun x => hb x i) (fun x => hb x j)]
    unfold k0_pay4 k0_pay3
    pointwise

theorem total_value (hx : ∀ r i, rowOf (m ((c : Thread nD τ).loc main_arg0)) r i = (f r i : EReal)) (i : Fin 256) :
    ∀ n ≤ 32, (sumAfter m c n : FVec Ideal S1x256 .f32) (ix2 0 i) = ((upto (fun r => f r i) n : ℝ) : EReal)
  | 0, _ => by
    rw [upto_zero]
    unfold sumAfter k0_pay2
    pointwise
    exact EReal.coe_zero.symm
  | n + 1, hn => by
    have ht : n < cfg0.N := (show n < 65 by omega)
    have hb := fun x => (block_rows m c ⟨n, ht⟩ (show n < 32 by omega) (index_gather ⟨n, ht⟩ (show n < 32 by omega)) x i).trans (hx _ i)
    rw [upto_succ _ (by omega), EReal.coe_add, ← total_value hx i n (by omega), sumAfter_succ m c ⟨n, ht⟩, ← sum_of hb]
    unfold k0_pay5 k0_pay3
    pointwise

/-! ## The matrix that is factored -/

/-- What is factored is the regularized covariance of the rows. -/
theorem cov_value (hx : ∀ r i, rowOf (m ((c : Thread nD τ).loc main_arg0)) r i = (f r i : EReal)) (i j : Fin 256) :
    k0_pay11 (F := Ideal) (gramAfter m c 32) (sumAfter m c 32) (ix2 i j) = (cov weight ridge f i j : EReal) := by
  have hg := gram_value hx i j 32 le_rfl
  have hs := fun i => total_value hx i 32 le_rfl
  simp only [upto_all] at hg hs
  have hN : Ideal.ofBits .f32 1207959552#32 - 1 = ((131072 - 1 : ℝ) : EReal) := by rw [rows_word, ← EReal.coe_one, ← EReal.coe_sub]
  unfold k0_pay11 k0_pay10
  pointwise
  rw [hN, unit_word (by omega) (by omega)]
  simp only [hg, hs, rows_word, weight_word, ridge_word]
  rw [Fin.sum_univ_one]
  have h0 : ∀ i, (ix2 (0 : Fin 1) i : S1x256.Idx) = ix2 0 i := fun _ => rfl
  simp only [hs, Ideal.div_coe (show (131072 : ℝ) ≠ 0 by norm_num), Ideal.div_coe (show (131072 - 1 : ℝ) ≠ 0 by norm_num),
    ← EReal.coe_mul, ← EReal.coe_add, ← EReal.coe_sub]
  refine congrArg Real.toEReal ?_
  rw [cov_of_sums (N := 131072) (by norm_num) (by norm_num)]
  simp only [Fin.ext_iff, eq_comm (a := i.val)]

/-- The factor the kernel holds whitens it. -/
theorem factor_value (hx : ∀ r i, rowOf (m ((c : Thread nD τ).loc main_arg0)) r i = (f r i : EReal)) :
    ∃ W : Matrix (Fin 256) (Fin 256) ℝ, Whitens (cov weight ridge f) W ∧ ∀ i j, (factorOf m c : FVec Ideal S256x256 .f32) (ix2 i j) = (W i j : EReal) :=
  inverse_whitens (cov_positive (by norm_num [weight]) (by norm_num [ridge]) (by norm_num) f) (cov_value hx)

/-- The mean's row. -/
theorem mean_value (hx : ∀ r i, rowOf (m ((c : Thread nD τ).loc main_arg0)) r i = (f r i : EReal)) (i : Fin 256) :
    k0_pay10 (F := Ideal) (sumAfter m c 32) (ix2 0 i) = (mean f i : EReal) := by
  have hs := total_value hx i 32 le_rfl
  rw [upto_all] at hs
  have hN : ((131072 : ℕ) : ℝ) = 131072 := by norm_num
  unfold k0_pay10 mean
  pointwise
  rw [hN, hs, rows_word, Ideal.div_coe (by norm_num), ← EReal.coe_mul]

/-- A block written holds its rows whitened. -/
theorem out_value {W : Matrix (Fin 256) (Fin 256) ℝ} (hx : ∀ r i, rowOf (m ((c : Thread nD τ).loc main_arg0)) r i = (f r i : EReal))
    (hW : ∀ i j, (factorOf m c : FVec Ideal S256x256 .f32) (ix2 i j) = (W i j : EReal)) (t : Fin cfg0.N) {b : ℕ} (hb : b < 32)
    (e : win0_0.index t = ![b, 0]) (x : Fin 4096) (i : Fin 256) :
    k0_pay9 (F := Ideal) (iblk m c 0 t) (wtOf m c) (biasOf m c) (ix2 x i) = (whitened W f ⟨b * 4096 + x.val, by omega⟩ i : EReal) := by
  have hr := fun k => (block_rows m c t hb e x k).trans (hx _ k)
  have hw : ∀ k, (wtOf m c : FVec Ideal S256x256 .f32) (ix2 k i) = (W i k : EReal) := fun k => by
    refine Eq.trans ?_ (hW i k)
    unfold wtOf k0_pay7
    pointwise
  have hbias : (biasOf m c : FVec Ideal S1x256 .f32) (ix2 0 i) = ((∑ k, mean f k * W i k : ℝ) : EReal) := by
    rw [← dot_of (fun k => mean_value hx k) (fun k => hW i k)]
    unfold biasOf k0_pay8
    pointwise
  rw [whitened_bias, EReal.coe_sub, ← hbias, ← dot_of hr hw]
  unfold k0_pay9
  pointwise

/-- The array the kernel leaves: every row whitened. -/
theorem array_value {W : Matrix (Fin 256) (Fin 256) ℝ} (hx : ∀ r i, rowOf (m ((c : Thread nD τ).loc main_arg0)) r i = (f r i : EReal))
    (hW : ∀ i j, (factorOf m c : FVec Ideal S256x256 .f32) (ix2 i j) = (W i j : EReal)) :
    (dats m 0 c).arrAt 1 cfg0.N = fun y : S131072x256.Idx => ((whitened W f (y 0) (y 1) : ℝ) : EReal) := by
  refine (dats m 0 c).arrAt_eq_of_covers 1 _ (by decide +kernel) fun t hf y => ?_
  have ht := flush_write t hf
  have e := index_write t ht
  blk_simp
  rw [after_out m c t]
  have hb : t.val - 33 < 32 := by have : t.val < 65 := t.isLt; omega
  have key : ∀ (x : Fin 4096) (i : Fin 256), (win0_1.blk t).view.emb (ix2 x i) = ix2 ⟨(t.val - 33) * 4096 + x.val, by omega⟩ i := fun x i => by
    blk_ext [e.2]
  obtain ⟨x, i, rfl⟩ : ∃ (x : Fin 4096) (i : Fin 256), y = ix2 x i := ⟨y 0, y 1, by funext a; fin_cases a <;> rfl⟩
  rw [key]
  exact out_value hx hW t hb e.1 x i

/-- The kernel's result: every row whitened, in the argument's shape. -/
theorem tail_value {W : Matrix (Fin 256) (Fin 256) ℝ} (hx : ∀ r i, rowOf (m ((c : Thread nD τ).loc main_arg0)) r i = (f r i : EReal))
    (hW : ∀ i j, (factorOf m c : FVec Ideal S256x256 .f32) (ix2 i j) = (W i j : EReal)) :
    Pipeline.afterTail₀ cfgs (dats m) 0 (V0 m) [hostOps1] c main_v2
      = (fun y => ((whitened W f (pixel (y 0) (y 1) (y 2)) (y 3) : ℝ) : EReal) : S32x64x64x256.Idx → EReal) := by
  have harr : Pipeline.withArrays (cfgs 0).spec c (V0 m c) (fun w => (dats m 0 c).arrAt w (cfgs 0).N) (Proc.devRef .tc main_v1) = (dats m 0 c).arrAt 1 cfg0.N :=
    Pipeline.withArrays_arr (cfgs 0).spec (by decide) c (V0 m c) (fun w => (dats m 0 c).arrAt w (cfgs 0).N) 1
  have e : ∀ X : Valuation τ sig (Elt Ideal), StableHlo.after hostOps1 X (Proc.devRef .tc main_v2)
      = shapeCast S32x64x64x256 (X (Proc.devRef .tc main_v1) : FVec Ideal S131072x256 .f32) shapeCasts_S131072x256_S32x64x64x256 := fun X => by
    after_reads_simp
    rfl
  unfold Pipeline.afterTail₀
  simp only [List.flatten_cons, List.flatten_nil, List.append_nil]
  rw [e, harr, array_value hx hW]
  funext y
  obtain ⟨a, b, d, i, rfl⟩ : ∃ (a : Fin 32) (b d : Fin 64) (i : Fin 256), y = ix4 a b d i := ⟨y 0, y 1, y 2, y 3, by funext a; fin_cases a <;> rfl⟩
  exact rows_unflat _ _ a b d i

/-- The kernel's run, at its result and its argument. -/
theorem kernel_run (ρ : Dev nD → PrngReg) : θ_run defs (onTc (τ := τ) (main (F := Ideal))) ⟨m, fun _ => 0, ρ⟩ (fun r => ∀ c : Dev nD,
      r.2.mem ((c.tc : Thread nD τ).loc main_v2) = Pipeline.afterTail₀ cfgs (dats m) 0 (V0 m) [hostOps1] c main_v2
      ∧ r.2.mem ((c.tc : Thread nD τ).loc main_arg0) = m ((c.tc : Thread nD τ).loc main_arg0)) :=
  (θ_run defs _ _).mono (fun _ h c => ⟨(h.1 c).2 main_v2 (Pipeline.mem_restRefs_of main_v2 (by decide) (by decide)),
    ((h.1 c).2 main_arg0 (Pipeline.mem_restRefs_of main_arg0 (by decide) (by decide))).trans (W_main_arg0 m (dats m) c)⟩) (run_region m ρ)

end Cert.Whiten

end
-- ==== Proof.Solve.lean ====
/- The reference's loop over extended reals: where the matrix's entries are those of a real `A = C Cᵀ` with `C` lower
   triangular, after `j` steps the loop holds the first `j` columns of `C` and the first `j` rows of its inverse. -/
module

public import proofs.«01_k».proof.Proof.FactorValue
public import proofs.«01_k».proof.Proof.Gen.ReferenceIdeal.Run
public import Idealize.ShloMosaic.Lib.DynamicIndex

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Value

open Matrix hiding transpose

section
variable {α : Type} {a b p q : ℕ}

/-- A block read at a start inside the operand. -/
theorem block_read (x : (⟨2, ![a, b]⟩ : Shape).Idx → α) (start : Fin 2 → Int) (h : (⟨2, ![a, b]⟩ : Shape).Slices (fun _ => 0) ⟨2, ![p, q]⟩)
    {u v : ℕ} (h0 : start 0 = u) (h1 : start 1 = v) (hu : u + p ≤ a) (hv : v + q ≤ b) (i : Fin p) (k : Fin q) (i' : Fin a) (k' : Fin b)
    (hi : u + i.val = i'.val) (hk : v + k.val = k'.val) :
    Host.dynamicSlice ⟨2, ![p, q]⟩ x start h (ix2 i k) = x (ix2 i' k') := by
  rw [Host.dynamicSlice_apply]
  refine congrArg x (funext fun d => Fin.ext ?_)
  fin_cases d
  · exact (congrArg (· + i.val) (Host.clampedStart_of_le h.1 start 0 u h0 hu)).trans hi
  · exact (congrArg (· + k.val) (Host.clampedStart_of_le h.1 start 1 v h1 hv)).trans hk

/-- A block written at a start inside the operand: at an index of the block, and at one off it. -/
theorem block_write_in (x : (⟨2, ![a, b]⟩ : Shape).Idx → α) (y : (⟨2, ![p, q]⟩ : Shape).Idx → α) (start : Fin 2 → Int)
    (h : (⟨2, ![a, b]⟩ : Shape).Slices (fun _ => 0) ⟨2, ![p, q]⟩) {u v : ℕ} (h0 : start 0 = u) (h1 : start 1 = v) (hu : u + p ≤ a)
    (hv : v + q ≤ b) (i : Fin a) (k : Fin b) (i' : Fin p) (k' : Fin q) (hi : i.val = u + i'.val) (hk : k.val = v + k'.val) :
    Host.dynamicUpdateSlice x y start h (ix2 i k) = y (ix2 i' k') := by
  have e0 := Host.clampedStart_of_le h.1 start 0 u h0 hu
  have e1 := Host.clampedStart_of_le h.1 start 1 v h1 hv
  rw [Host.dynamicUpdateSlice_apply, dif_pos]
  · refine congrArg y (funext fun d => Fin.ext ?_)
    fin_cases d
    · show i.val - Host.clampedStart _ _ h.1 start 0 = i'.val
      rw [e0]; omega
    · show k.val - Host.clampedStart _ _ h.1 start 1 = k'.val
      rw [e1]; omega
  · intro d
    fin_cases d
    · show Host.clampedStart _ _ h.1 start 0 ≤ i.val ∧ i.val < Host.clampedStart _ _ h.1 start 0 + p
      rw [e0]; omega
    · show Host.clampedStart _ _ h.1 start 1 ≤ k.val ∧ k.val < Host.clampedStart _ _ h.1 start 1 + q
      rw [e1]; omega
theorem block_write_off (x : (⟨2, ![a, b]⟩ : Shape).Idx → α) (y : (⟨2, ![p, q]⟩ : Shape).Idx → α) (start : Fin 2 → Int)
    (h : (⟨2, ![a, b]⟩ : Shape).Slices (fun _ => 0) ⟨2, ![p, q]⟩) {u v : ℕ} (h0 : start 0 = u) (h1 : start 1 = v) (hu : u + p ≤ a)
    (hv : v + q ≤ b) (i : Fin a) (k : Fin b) (ho : ¬(u ≤ i.val ∧ i.val < u + p) ∨ ¬(v ≤ k.val ∧ k.val < v + q)) :
    Host.dynamicUpdateSlice x y start h (ix2 i k) = x (ix2 i k) := by
  have e0 := Host.clampedStart_of_le h.1 start 0 u h0 hu
  have e1 := Host.clampedStart_of_le h.1 start 1 v h1 hv
  rw [Host.dynamicUpdateSlice_apply, dif_neg]
  intro hin
  have i0 : Host.clampedStart _ _ h.1 start 0 ≤ i.val ∧ i.val < Host.clampedStart _ _ h.1 start 0 + p := hin 0
  have i1 : Host.clampedStart _ _ h.1 start 1 ≤ k.val ∧ k.val < Host.clampedStart _ _ h.1 start 1 + q := hin 1
  rw [e0] at i0
  rw [e1] at i1
  exact ho.elim (· i0) (· i1)
end

/-- The terms of a sum up to `j`, when those past `j` are zero. -/
theorem sum_upto {n : ℕ} (j : Fin n) (f : Fin n → ℝ) (h : ∀ p, j < p → f p = 0) :
    ∑ p, f p = ∑ p, (if p.val < j.val then f p else 0) + f j := by
  rw [← Finset.sum_add_sum_compl {j} f, add_comm, Finset.sum_singleton]
  congr 1
  rw [← Finset.sum_add_sum_compl {j} (fun p : Fin n => if p.val < j.val then f p else 0), Finset.sum_singleton, if_neg (lt_irrefl _), zero_add]
  refine Finset.sum_congr rfl fun p hp => ?_
  split_ifs with hlt
  · rfl
  · refine h p (lt_of_le_of_ne (not_lt.1 hlt) fun e => ?_)
    simp [e] at hp

/-! ## The step's three arrays, read at an index -/

def schurColumn (col : FVec Ideal S256x1 .f32) (L : FVec Ideal S256x256 .f32) (row : FVec Ideal S1x256 .f32) : FVec Ideal S256x1 .f32 :=
  subf col (Host.dotGeneral dot_S256x256_S256x1_S256x1_1_0_0_1_n_n none L (transpose S256x1 [1, 0] row transposes_S1x256_S256x1_1_0))
theorem schurColumn_apply (col : FVec Ideal S256x1 .f32) (L : FVec Ideal S256x256 .f32) (row : FVec Ideal S1x256 .f32) (i : Fin 256) :
    schurColumn col L row (ix2 i 0) = col (ix2 i 0) - ∑ p : Fin 256, L (ix2 i p) * row (ix2 0 p) := by
  unfold schurColumn
  pointwise

def factorColumn (n : IVec S256x1 32) (c : IVec S_ 32) (s : FVec Ideal S256x1 .f32) (d : FVec Ideal S1x1 .f32) : FVec Ideal S256x1 .f32 :=
  select (cmpi .sge n (broadcastInDim S256x1 ![] bcast_S_S256x1 (id c)))
    (Host.divf s (broadcastInDim S256x1 ![0, 1] bcast_S1x1_S256x1_0_1 (Host.sqrt d)))
    (broadcastInDim S256x1 ![] bcast_S_S256x1 (constant S_ .f32 0x00000000#32))
theorem factorColumn_apply (n : IVec S256x1 32) (j : ℕ) (s : FVec Ideal S256x1 .f32) (d : FVec Ideal S1x1 .f32) (i : Fin 256) :
    factorColumn n (constantI S_ 32 (BitVec.ofNat 32 j)) s d (ix2 i 0)
      = Scalar.select (IntOp.cmpi .sge (n (ix2 i 0)) (BitVec.ofNat 32 j)) (Ideal.div (s (ix2 i 0)) (Ideal.sqrt (d (ix2 0 0)))) 0 := by
  unfold factorColumn
  pointwise
  rfl

def inverseRow (e r : FVec Ideal S1x256 .f32) (X : FVec Ideal S256x256 .f32) (d : FVec Ideal S1x1 .f32) : FVec Ideal S1x256 .f32 :=
  Host.divf (subf e (Host.dotGeneral dot_S1x256_S256x256_S1x256_1_0_0_1_n_n none r X)) (broadcastInDim S1x256 ![0, 1] bcast_S1x1_S1x256_0_1 d)
theorem inverseRow_apply (e r : FVec Ideal S1x256 .f32) (X : FVec Ideal S256x256 .f32) (d : FVec Ideal S1x1 .f32) (q : Fin 256) :
    inverseRow e r X d (ix2 0 q) = Ideal.div (e (ix2 0 q) - ∑ p : Fin 256, r (ix2 0 p) * X (ix2 p q)) (d (ix2 0 0)) := by
  unfold inverseRow
  pointwise

/-! ## The loop's invariant -/

/-- The counter as a block's start: itself, not being negative. -/
theorem start_word {c : IVec S_ 32} {j : ℕ} (hc : c = constantI S_ 32 (BitVec.ofNat 32 j)) (hj : j < 256) (i : S_.Idx) :
    BitVec.toInt (select (cmpi .slt c (constantI S_ 32 0#32)) (addi (id c) (constantI S_ 32 256#32)) c i) = (j : Int) := by
  subst hc
  exact toInt_wrap_ofNat j (by omega)

/-- What the loop holds before step `j`: the matrix, the row numbers, the identity, the counter, the first `j` columns of
    `C` and the first `j` rows of `W`. -/
structure Holds (A C W : Matrix (Fin 256) (Fin 256) ℝ) (V : Valuation τ sig (Elt Ideal)) (j : ℕ) : Prop where
  mat : ∀ i k : Fin 256, (V (Proc.devRef .tc main_v27_0) : FVec Ideal S256x256 .f32) (ix2 i k) = (A i k : EReal)
  num : ∀ i : Fin 256, (V (Proc.devRef .tc main_v27_1) : IVec S256x1 32) (ix2 i 0) = BitVec.ofNat 32 i.val
  eye : ∀ i k : Fin 256, (V (Proc.devRef .tc main_v27_2) : FVec Ideal S256x256 .f32) (ix2 i k) = ((if i = k then 1 else 0 : ℝ) : EReal)
  ctr : (V (Proc.devRef .tc main_v27_4) : IVec S_ 32) = constantI S_ 32 (BitVec.ofNat 32 j)
  low : ∀ i k : Fin 256, (V (Proc.devRef .tc main_v27_5) : FVec Ideal S256x256 .f32) (ix2 i k) = ((if k.val < j then C i k else 0 : ℝ) : EReal)
  inv : ∀ i k : Fin 256, (V (Proc.devRef .tc main_v27_6) : FVec Ideal S256x256 .f32) (ix2 i k) = ((if i.val < j then W i k else 0 : ℝ) : EReal)

section
variable {A C W : Matrix (Fin 256) (Fin 256) ℝ} {V : Valuation τ sig (Elt Ideal)}

/-- The reduced column is the factor's times its diagonal entry. -/
theorem column_value (hlow : ∀ i j, i < j → C i j = 0) (hCC : C * Cᵀ = A) {j : ℕ} (hj : j < 256) (H : Holds A C W V j) (i : Fin 256) :
    (res_main_while0b_v44 V : FVec Ideal S256x1 .f32) (ix2 i 0) = ((C i ⟨j, hj⟩ * C ⟨j, hj⟩ ⟨j, hj⟩ : ℝ) : EReal) := by
  unfold res_main_while0b_v44
  refine (schurColumn_apply _ _ _ i).trans ?_
  refine (congrArg₂ (fun x y : EReal => x - y) ((block_read _ _ sliceFits_S256x256_S256x1 (u := 0) (v := j) rfl (start_word H.ctr hj _)
      (by omega) (by omega) i 0 i ⟨j, hj⟩ (Nat.zero_add _) rfl).trans (H.mat i ⟨j, hj⟩))
    (dot_of (f := fun p => if p.val < j then C i p else 0) (g := fun p => if p.val < j then C ⟨j, hj⟩ p else 0)
      (fun p => H.low i p) (fun p => (block_read _ _ sliceFits_S256x256_S1x256 (u := j) (v := 0) (start_word H.ctr hj _) rfl (by omega)
        (by omega) 0 p ⟨j, hj⟩ p rfl (Nat.zero_add _)).trans (H.low ⟨j, hj⟩ p)))).trans ?_
  show ((A i ⟨j, hj⟩ : ℝ) : EReal) - _ = _
  rw [← EReal.coe_sub, ← hCC]
  congr 1
  have h := sum_upto ⟨j, hj⟩ (fun p => C i p * C ⟨j, hj⟩ p) fun p hp => by rw [hlow _ p hp, mul_zero]
  have e : (C * Cᵀ) i ⟨j, hj⟩ = ∑ p, C i p * C ⟨j, hj⟩ p := rfl
  rw [e, h, ← Finset.sum_congr rfl fun p _ => show _ = if p.val < j then C i p * C ⟨j, hj⟩ p else 0 from ?_]
  · exact add_sub_cancel_left _ _
  · split_ifs <;> simp

/-- The factor with its next column. -/
theorem low_value (hlow : ∀ i j, i < j → C i j = 0) (hpos : ∀ i, 0 < C i i) (hCC : C * Cᵀ = A) {j : ℕ} (hj : j < 256)
    (H : Holds A C W V j) (i k : Fin 256) :
    (res_main_while0b_v62 V : FVec Ideal S256x256 .f32) (ix2 i k) = ((if k.val < j + 1 then C i k else 0 : ℝ) : EReal) := by
  unfold res_main_while0b_v62
  by_cases hk : k.val = j
  · refine (block_write_in _ _ _ updateFits_S256x256_S256x1 (u := 0) (v := j) rfl (start_word H.ctr hj _) (by omega) (by omega) i k i 0
      (Nat.zero_add _).symm hk).trans ?_
    obtain rfl : k = ⟨j, hj⟩ := Fin.ext hk
    suffices key : ∀ st : Fin 2 → Int, st 0 = (j : Int) → st 1 = ((0 : ℕ) : Int) →
        factorColumn (V (Proc.devRef .tc main_v27_1)) (V (Proc.devRef .tc main_v27_4)) (res_main_while0b_v44 V)
          (Host.dynamicSlice S1x1 (res_main_while0b_v44 V : FVec Ideal S256x1 .f32) st sliceFits_S256x1_S1x1) (ix2 i 0)
            = ((if j < j + 1 then C i ⟨j, hj⟩ else 0 : ℝ) : EReal) by
      exact key _ (start_word H.ctr hj _) rfl
    intro st h0 h1
    have hd := (block_read (res_main_while0b_v44 V : FVec Ideal S256x1 .f32) st sliceFits_S256x1_S1x1 h0 h1 (by omega) (by omega)
      0 0 ⟨j, hj⟩ 0 rfl rfl).trans (column_value hlow hCC hj H ⟨j, hj⟩)
    rw [H.ctr]
    refine (factorColumn_apply _ j _ _ i).trans ?_
    rw [hd, H.num, column_value hlow hCC hj H i, select_ge (by omega) (by omega), Ideal.sqrt_coe, if_neg (not_lt.2 (mul_self_nonneg (C ⟨j, hj⟩ ⟨j, hj⟩))), Real.sqrt_mul_self (hpos _).le,
      Ideal.div_coe (hpos _).ne', ← EReal.coe_mul, if_pos (Nat.lt_succ_self j), mul_assoc, mul_one_div_cancel (hpos _).ne', mul_one]
    split_ifs with h
    · rfl
    · rw [hlow i _ (Fin.lt_def.2 (not_le.1 h))]; rfl
  · refine (block_write_off _ _ _ updateFits_S256x256_S256x1 (u := 0) (v := j) rfl (start_word H.ctr hj _) (by omega) (by omega) i k
      (Or.inr (by omega))).trans ((H.low i k).trans ?_)
    congr 1
    exact if_congr (by omega) rfl rfl

/-- The inverse with its next row. -/
theorem inv_value (hlow : ∀ i j, i < j → C i j = 0) (hpos : ∀ i, 0 < C i i) (hCC : C * Cᵀ = A) (hCW : C * W = 1) {j : ℕ} (hj : j < 256)
    (H : Holds A C W V j) (i k : Fin 256) :
    (step_main_v27_6 V : FVec Ideal S256x256 .f32) (ix2 i k) = ((if i.val < j + 1 then W i k else 0 : ℝ) : EReal) := by
  unfold step_main_v27_6
  by_cases hi : i.val = j
  · refine (block_write_in _ _ _ updateFits_S256x256_S1x256 (u := j) (v := 0) (start_word H.ctr hj _) rfl (by omega) (by omega) i k 0 k
      hi (Nat.zero_add _).symm).trans ?_
    obtain rfl : i = ⟨j, hj⟩ := Fin.ext hi
    refine (inverseRow_apply _ _ _ _ k).trans ?_
    refine (congrArg₂ (fun x y : EReal => Ideal.div x y) (congrArg₂ (fun x y : EReal => x - y)
      ((block_read _ _ sliceFits_S256x256_S1x256 (u := j) (v := 0) (start_word H.ctr hj _) rfl (by omega) (by omega) 0 k ⟨j, hj⟩ k rfl (Nat.zero_add _)).trans (H.eye ⟨j, hj⟩ k))
      (dot_of (f := fun p => if p.val < j + 1 then C ⟨j, hj⟩ p else 0) (g := fun p => if p.val < j then W p k else 0)
        (fun p => (block_read _ _ sliceFits_S256x256_S1x256 (u := j) (v := 0) (start_word H.ctr hj _) rfl (by omega)
          (by omega) 0 p ⟨j, hj⟩ p rfl (Nat.zero_add _)).trans (low_value hlow hpos hCC hj H ⟨j, hj⟩ p)) (fun p => H.inv p k)))
      ((block_read _ _ sliceFits_S256x256_S1x1 (u := j) (v := j) (start_word H.ctr hj _) (start_word H.ctr hj _) (by omega) (by omega) 0 0 ⟨j, hj⟩ ⟨j, hj⟩ rfl rfl).trans
        (low_value hlow hpos hCC hj H ⟨j, hj⟩ ⟨j, hj⟩))).trans ?_
    rw [← EReal.coe_sub, if_pos (show (⟨j, hj⟩ : Fin 256).val < j + 1 from Nat.lt_succ_self j), Ideal.div_coe (hpos _).ne', ← EReal.coe_mul, if_pos (Nat.lt_succ_self j)]
    congr 1
    have h := sum_upto ⟨j, hj⟩ (fun p => C ⟨j, hj⟩ p * W p k) fun p hp => by rw [hlow _ p hp, zero_mul]
    have e : (∑ p, C ⟨j, hj⟩ p * W p k) = if (⟨j, hj⟩ : Fin 256) = k then 1 else 0 := (congrFun (congrFun hCW ⟨j, hj⟩) k).trans (one_apply ..)
    rw [← e, h, ← Finset.sum_congr rfl fun p _ => show _ = if p.val < j then C ⟨j, hj⟩ p * W p k else 0 from ?_, add_sub_cancel_left]
    · rw [mul_comm, ← mul_assoc, one_div_mul_cancel (hpos _).ne', one_mul]
    · split_ifs <;> first | omega | simp
  · refine (block_write_off _ _ _ updateFits_S256x256_S1x256 (u := j) (v := 0) (start_word H.ctr hj _) rfl (by omega) (by omega) i k
      (Or.inl (by omega))).trans ((H.inv i k).trans ?_)
    congr 1
    exact if_congr (by omega) rfl rfl

/-- One step of the loop. -/
theorem Holds.next (hlow : ∀ i j, i < j → C i j = 0) (hpos : ∀ i, 0 < C i i) (hCC : C * Cᵀ = A) (hCW : C * W = 1) {j : ℕ} (hj : j < 256)
    (H : Holds A C W V j) : Holds A C W (STEP V) (j + 1) where
  mat i k := by rw [STEP_main_v27_0]; exact H.mat i k
  num i := by rw [STEP_main_v27_1]; exact H.num i
  eye i k := by rw [STEP_main_v27_2]; exact H.eye i k
  ctr := by
    rw [STEP_main_v27_4]; unfold step_main_v27_4
    rw [H.ctr, BitVec.ofNat_add]; rfl
  low i k := by rw [STEP_main_v27_5]; exact low_value hlow hpos hCC hj H i k
  inv i k := by rw [STEP_main_v27_6]; exact inv_value hlow hpos hCC hCW hj H i k

/-- All the steps: the inverse. -/
theorem Holds.steps (hlow : ∀ i j, i < j → C i j = 0) (hpos : ∀ i, 0 < C i i) (hCC : C * Cᵀ = A) (hCW : C * W = 1)
    (H : Holds A C W V 0) : ∀ j ≤ 256, Holds A C W (STEP^[j] V) j
  | 0, _ => H
  | j + 1, hj => by
    rw [Function.iterate_succ_apply']
    exact (H.steps hlow hpos hCC hCW j (by omega)).next hlow hpos hCC hCW (by omega)

end

end Cert.Whiten

end
-- ==== Proof.ReferenceValue.lean ====
/- The reference's result over extended reals: each row of the argument less the mean, through the inverse factor. -/
module

public import proofs.«01_k».proof.Proof.Solve
public import proofs.«01_k».proof.Proof.Covariance
public import proofs.«01_k».proof.Proof.Literals
public import proofs.«01_k».proof.Proof.Rows

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Value

open Idealize.ShloMosaic.StableHlo (entryContents finalContents atTrip afterL afterL_cons afterL_nil after after_of_writes_sub)
open Matrix hiding transpose

/-! ## The values before the loop -/

/-- The argument's channels, a line each. -/
def channels (x : FVec Ideal S32x64x64x256 .f32) : FVec Ideal S256x131072 .f32 :=
  shapeCast S256x131072 (transpose S256x32x64x64 [3, 0, 1, 2] x transposes_S32x64x64x256_S256x32x64x64_3_0_1_2) shapeCasts_S256x32x64x64_S256x131072
/-- Lines less their means. -/
def centred (y : FVec Ideal S256x131072 .f32) : FVec Ideal S256x131072 .f32 :=
  subf y (broadcastInDim S256x131072 ![0, 1] bcast_S256x1_S256x131072_0_1
    (Host.divf (broadcastInDim S256x1 ![0] bcast_S256_S256x1_0 (Host.reduceAdd y (constant S_ .f32 0x00000000#32) reducesTo_S256x131072_S256_d1 h_S_))
      (broadcastInDim S256x1 ![] bcast_S_S256x1 (constant S_ .f32 0x48000000#32))))
/-- The identity. -/
def unity : FVec Ideal S256x256 .f32 :=
  uitofp .f32 (cmpi .eq (addi (iotaInDim S256x256 32 0) (broadcastInDim S256x256 ![] bcast_S_S256x256 (constantI S_ 32 0#32))) (iotaInDim S256x256 32 1))
/-- The regularized covariance of centred lines. -/
def regular (y : FVec Ideal S256x131072 .f32) : FVec Ideal S256x256 .f32 :=
  addf (mulf (broadcastInDim S256x256 ![] bcast_S_S256x256 (constant S_ .f32 0x3F7FBE77#32))
      (Host.divf (Host.dotGeneral dot_S256x131072_S131072x256_S256x256_1_0_0_1_n_n none y (transpose S131072x256 [1, 0] y transposes_S256x131072_S131072x256_1_0))
        (broadcastInDim S256x256 ![] bcast_S_S256x256 (subf (constant S_ .f32 0x48000000#32) (constant S_ .f32 0x3F800000#32)))))
    (mulf (broadcastInDim S256x256 ![] bcast_S_S256x256 (constant S_ .f32 0x3A83126F#32)) unity)

/-- A matrix times the lines, and lines as images. -/
def product (w : FVec Ideal S256x256 .f32) (y : FVec Ideal S256x131072 .f32) : FVec Ideal S256x131072 .f32 :=
  Host.dotGeneral dot_S256x256_S256x131072_S256x131072_1_0_0_1_n_n none w y
def images (y : FVec Ideal S256x131072 .f32) : FVec Ideal S32x64x64x256 .f32 :=
  transpose S32x64x64x256 [1, 2, 3, 0] (shapeCast S256x32x64x64 y shapeCasts_S256x131072_S256x32x64x64) transposes_S256x32x64x64_S32x64x64x256_1_2_3_0

variable (m : (ℓ : Loc nD τ sig) → Buf (Elt Ideal) ℓ) (c : Dev nD)

theorem entry_centred : entryContents preI m c (Proc.devRef .tc main_v7) = centred (channels (m ((c : Thread nD τ).loc main_arg0))) := by
  simp only [entryContents, afterL_cons, afterL_nil]
  after_reads_simp
  rfl

theorem entry_mat : entryContents preI m c (Proc.devRef .tc main_v27_0) = regular (entryContents preI m c (Proc.devRef .tc main_v7)) := by
  simp only [entryContents, afterL_cons, afterL_nil]
  after_reads_simp
  rfl
theorem entry_eye : entryContents preI m c (Proc.devRef .tc main_v27_2) = unity := by
  simp only [entryContents, afterL_cons, afterL_nil]
  after_reads_simp
  rfl
theorem entry_num : entryContents preI m c (Proc.devRef .tc main_v27_1) = iotaInDim S256x1 32 0 := by
  simp only [entryContents, afterL_cons, afterL_nil]
  after_reads_simp
  rfl
theorem entry_ctr : entryContents preI m c (Proc.devRef .tc main_v27_4) = constantI S_ 32 0#32 := by
  simp only [entryContents, afterL_cons, afterL_nil]
  after_reads_simp
  rfl
theorem entry_low : entryContents preI m c (Proc.devRef .tc main_v27_5) = broadcastInDim S256x256 ![] bcast_S_S256x256 (constant (F := Ideal) S_ .f32 0x00000000#32) := by
  simp only [entryContents, afterL_cons, afterL_nil]
  after_reads_simp
  rfl
theorem entry_inv : entryContents preI m c (Proc.devRef .tc main_v27_6) = broadcastInDim S256x256 ![] bcast_S_S256x256 (constant (F := Ideal) S_ .f32 0x00000000#32) := by
  simp only [entryContents, afterL_cons, afterL_nil]
  after_reads_simp
  rfl

/-! ## Their entries -/

theorem channels_at (x : FVec Ideal S32x64x64x256 .f32) (i : Fin 256) (r : Fin 131072) : channels x (ix2 i r) = rowOf x r i := by
  refine (columns_flat _ _ r i).trans ?_
  unfold rowOf
  pointwise

theorem images_at (y : FVec Ideal S256x131072 .f32) (a : Fin 32) (b d : Fin 64) (i : Fin 256) : images y (ix4 a b d i) = y (ix2 i (pixel a b d)) := by
  refine Eq.trans ?_ (columns_unflat y shapeCasts_S256x131072_S256x32x64x64 a b d i)
  unfold images
  generalize shapeCast S256x32x64x64 y _ = z
  pointwise

variable {f : Fin 131072 → Fin 256 → ℝ}

theorem centred_at {y : FVec Ideal S256x131072 .f32} (hy : ∀ i r, y (ix2 i r) = (f r i : EReal)) (i : Fin 256) (r : Fin 131072) :
    centred y (ix2 i r) = ((f r i - mean f i : ℝ) : EReal) := by
  have hN : ((131072 : ℕ) : ℝ) = 131072 := by norm_num
  unfold centred mean
  pointwise
  rw [hy, sum_of (hy i), rows_word, hN, Ideal.div_coe (by norm_num), ← EReal.coe_mul, ← EReal.coe_sub]
theorem unity_at (i j : Fin 256) : unity (ix2 i j) = ((if i = j then 1 else 0 : ℝ) : EReal) := by
  unfold unity
  pointwise
  rw [show IntOp.addi (BitVec.ofNat 32 i.val) 0#32 = BitVec.ofNat 32 i.val from BitVec.add_zero _, WordCmp.cmpi_eq_ofNat (by omega) (by omega)]
  by_cases h : i = j
  · subst h
    rw [if_pos rfl, decide_eq_true rfl]
    show (((1#1 : BitVec 1).toNat : ℝ) : EReal) = _
    norm_num
  · rw [if_neg h, decide_eq_false fun e => h (Fin.ext e)]
    show (((0#1 : BitVec 1).toNat : ℝ) : EReal) = _
    norm_num
theorem regular_at {y : FVec Ideal S256x131072 .f32} (hy : ∀ i r, y (ix2 i r) = ((f r i - mean f i : ℝ) : EReal)) (i j : Fin 256) :
    regular y (ix2 i j) = (cov weight ridge f i j : EReal) := by
  have hN : Ideal.ofBits .f32 1207959552#32 - 1 = ((131072 - 1 : ℝ) : EReal) := by rw [rows_word, ← EReal.coe_one, ← EReal.coe_sub]
  have hc : ((131072 : ℕ) : ℝ) = 131072 := by norm_num
  unfold regular cov
  pointwise
  rw [hN, unity_at, weight_word, ridge_word, dot_of (hy i) (hy j), hc, Ideal.div_coe (by norm_num), ← EReal.coe_mul, ← EReal.coe_mul,
    ← EReal.coe_mul, ← EReal.coe_add]

/-! ## The loop -/

variable {m} {c} {C W : Matrix (Fin 256) (Fin 256) ℝ}

theorem entry_deviations (hx : ∀ r i, rowOf (m ((c : Thread nD τ).loc main_arg0)) r i = (f r i : EReal)) (i : Fin 256) (r : Fin 131072) :
    (entryContents preI m c (Proc.devRef .tc main_v7) : FVec Ideal S256x131072 .f32) (ix2 i r) = ((f r i - mean f i : ℝ) : EReal) := by
  rw [entry_centred]
  exact centred_at (fun i r => (channels_at _ i r).trans (hx r i)) i r

/-- The loop's invariant where it is entered. -/
theorem entry_holds (hx : ∀ r i, rowOf (m ((c : Thread nD τ).loc main_arg0)) r i = (f r i : EReal)) :
    Holds (cov weight ridge f) C W (entryContents preI m c) 0 where
  mat i j := by rw [entry_mat]; exact regular_at (entry_deviations hx) i j
  num i := by rw [entry_num]; pointwise
  eye i j := by rw [entry_eye]; exact unity_at i j
  ctr := entry_ctr m c
  low i j := by rw [entry_low, if_neg (Nat.not_lt_zero _)]; pointwise; exact EReal.coe_zero.symm
  inv i j := by rw [entry_inv, if_neg (Nat.not_lt_zero _)]; pointwise; exact EReal.coe_zero.symm

/-- What the loop does not write stays as entered. -/
theorem loop_keeps (r : Ref sig .tc) (hb : r ∉ while0Ops0_W) (hc : r ∉ condOps_W) :
    ∀ n, atTrip condOps bodyI (entryContents preI m) n c (Proc.devRef .tc r) = entryContents preI m c (Proc.devRef .tc r)
  | 0 => rfl
  | n + 1 => by
    refine Eq.trans ?_ (loop_keeps r hb hc n)
    exact (after_of_writes_sub while0Ops0 _ while0Ops0_writes hb).trans (after_of_writes_sub condOps _ condOps_writes hc)

/-- The inverse factor, after the loop. -/
theorem loop_inv (hlow : ∀ i j, i < j → C i j = 0) (hpos : ∀ i, 0 < C i i) (hCC : C * Cᵀ = cov weight ridge f) (hCW : C * W = 1)
    (hx : ∀ r i, rowOf (m ((c : Thread nD τ).loc main_arg0)) r i = (f r i : EReal)) (i j : Fin 256) :
    (after condOps (atTrip condOps bodyI (entryContents preI m) 256 c) (Proc.devRef .tc main_v27_6) : FVec Ideal S256x256 .f32) (ix2 i j) = (W i j : EReal) := by
  have e := (cond_keeps (atK m 256 c) main_v27_6 (by decide)).trans (atK_agree m c 256 main_v27_6 (by decide))
  refine (congrFun e _).trans (((entry_holds hx).steps hlow hpos hCC hCW 256 le_rfl).inv i j |>.trans ?_)
  rw [if_pos i.isLt]

/-- The reference's result: every row whitened. -/
theorem final_value (hlow : ∀ i j, i < j → C i j = 0) (hpos : ∀ i, 0 < C i i) (hCC : C * Cᵀ = cov weight ridge f) (hCW : C * W = 1)
    (hx : ∀ r i, rowOf (m ((c : Thread nD τ).loc main_arg0)) r i = (f r i : EReal)) :
    finalContents condOps preI bodyI postI 256 m c (Proc.devRef .tc main_v30)
      = (fun y => ((whitened W f (pixel (y 0) (y 1) (y 2)) (y 3) : ℝ) : EReal) : S32x64x64x256.Idx → EReal) := by
  have h6 := loop_inv hlow hpos hCC hCW hx
  have h7 : ∀ i r, (after condOps (atTrip condOps bodyI (entryContents preI m) 256 c) (Proc.devRef .tc main_v7) : FVec Ideal S256x131072 .f32) (ix2 i r) = ((f r i - mean f i : ℝ) : EReal) := fun i r => by
    have e := (after_of_writes_sub condOps (atTrip condOps bodyI (entryContents preI m) 256 c) condOps_writes (by decide +kernel : main_v7 ∉ condOps_W)).trans
      (loop_keeps main_v7 (by decide +kernel) (by decide +kernel) 256)
    exact (congrFun e _).trans (entry_deviations hx i r)
  simp only [finalContents, afterL_cons, afterL_nil]
  generalize after condOps (atTrip condOps bodyI (entryContents preI m) 256 c) = X at h6 h7 ⊢
  have e : after hostOps0_1 X (Proc.devRef .tc main_v30) = images (product (X (Proc.devRef .tc main_v27_6)) (X (Proc.devRef .tc main_v7))) := by
    after_reads_simp
    rfl
  rw [e]
  funext y
  obtain ⟨a, b, d, i, rfl⟩ : ∃ (a : Fin 32) (b d : Fin 64) (i : Fin 256), y = ix4 a b d i := ⟨y 0, y 1, y 2, y 3, by funext a; fin_cases a <;> rfl⟩
  refine (images_at _ a b d i).trans (Eq.trans ?_ (dot_of (h6 i) (fun x => h7 x (pixel a b d))))
  unfold product
  pointwise

theorem final_arg : finalContents condOps preI bodyI postI 256 m c (Proc.devRef .tc main_arg0) = m ((c : Thread nD τ).loc main_arg0) := by
  simp only [finalContents, afterL_cons, afterL_nil]
  have e : ∀ X : Valuation τ sig (Elt Ideal), after hostOps0_1 X (Proc.devRef .tc main_arg0) = X (Proc.devRef .tc main_arg0) := fun X => by
    after_reads_simp
  rw [e]
  refine (after_of_writes_sub condOps _ condOps_writes (by decide +kernel : main_arg0 ∉ condOps_W)).trans
    ((loop_keeps main_arg0 (by decide +kernel) (by decide +kernel) 256).trans ?_)
  exact after_of_writes_sub hostOps0 _ hostOps0_writes (by decide +kernel)

/-! ## The run -/

variable (m) (ρ : Dev nD → PrngReg)

/-- Every run of the reference ends with the argument as launched and every counter at zero. -/
theorem reference_quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c main_arg0 rfl).trans final_arg, sem_eq_zero_of_no_sems (by decide) r.2⟩) (run_fold m ρ)

end Cert.Whiten

end
-- ==== Proof.Finite.lean ====
/- The precondition: every element of the argument is real. -/
module

public import proofs.«01_k».proof.Proof.Rows
public import proofs.«01_k».proof.Proof.Gen.Pre_finite

@[expose] public section

set_option maxRecDepth 16384

noncomputable section

namespace Cert.Whiten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A conjunction of bits is set only where each bit is. -/
theorem and_all {β : Type} (g : β → BitVec 1) : ∀ (l : List β) (b : BitVec 1), l.foldl (fun r n => IntOp.andi r (g n)) b = 1#1 → b = 1#1 ∧ ∀ n ∈ l, g n = 1#1
  | [], b, h => ⟨h, fun _ hn => nomatch hn⟩
  | n :: l, b, h => by
    have hand : ∀ a b : BitVec 1, IntOp.andi a b = 1#1 → a = 1#1 ∧ b = 1#1 := by decide
    have ⟨h1, h2⟩ := and_all g l _ h
    have ⟨h3, h4⟩ := hand _ _ h1
    exact ⟨h3, List.forall_mem_cons.2 ⟨h4, h2⟩⟩

/-- A number whose absolute value is below infinity is real. -/
theorem real_of_below {x : EReal} (h : FloatOps.cmpf (F := Ideal) (φ := .f32) .olt (FloatOps.absf (F := Ideal) (φ := .f32) x) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => exact absurd h (by simp [FloatOps.cmpf, FloatOps.absf, Ideal.cmp])
  | coe r => exact ⟨r, rfl⟩
  | top => exact absurd h (by simp [FloatOps.cmpf, FloatOps.absf, Ideal.cmp])

attribute [local instance] Cert.Pre_finite.Gen.facts in
theorem real_of_finite {x : Images.Idx → EReal} (h : Cert.Pre_finite.fn (F := Ideal) x = fun _ => 1#1) (i : Images.Idx) : ∃ r : ℝ, x i = r := by
  have h0 := congrFun h ix0
  have ha := (and_all _ _ _ h0).2 (Images.rowMajor i) (List.mem_filter.2 ⟨List.mem_finRange _, decide_eq_true (funext fun a => a.elim0)⟩)
  rw [Equiv.symm_apply_apply] at ha
  exact real_of_below ha

end Cert.Whiten

end
-- ==== Proof.lean ====
/- The certificate: the two programs' frames, the kernel's idealization, and the equality of the kernel's result with the
   reference's over extended reals. -/
module

public import proofs.«01_k».proof.Defs
public import proofs.«01_k».proof.Proof.SameProgram
public import proofs.«01_k».proof.Proof.KernelValue
public import proofs.«01_k».proof.Proof.ReferenceValue
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem
open Cert.Whiten
open Matrix hiding transpose

/-- The printed program's frame: its text is its idealization's, read at the words. -/
theorem frame_kernel : Cert.quiescent_Kernel (hKernel := Cert.Kernel.Gen.facts) := by
  rw [same_text]
  exact fun m ρ _ => quiet m ρ

/-- The rows of a real argument. -/
theorem real_rows {x : Images.Idx → EReal} (h : ∀ i, ∃ r : ℝ, x i = r) : ∃ f : Fin 131072 → Fin 256 → ℝ, ∀ r i, rowOf x r i = (f r i : EReal) := by
  choose g hg using h
  exact ⟨rowOf g, fun r i => hg _⟩

/-- The two results are equal, the argument real. -/
theorem results_equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨_, kernel_run (m := m) ρ, (θ_run _ _ _).mono (fun r h c => ⟨(h c Cert.ReferenceIdeal.main_v30 rfl).trans ?_,
    (h c Cert.ReferenceIdeal.main_arg0 rfl).trans final_arg⟩) (Cert.ReferenceIdeal.Value.run_fold m' ρ')⟩
  obtain ⟨f, hf⟩ := real_rows (real_of_finite (hpre c))
  obtain ⟨W, hW, hfactor⟩ := factor_value (m := m) (c := c) hf
  obtain ⟨C, hlow, hpos, hCC, hCW⟩ := hW.factor
  have hf' : ∀ r i, rowOf (m' ((c.tc : Thread Cert.ReferenceIdeal.nD Cert.ReferenceIdeal.τ).loc Cert.ReferenceIdeal.main_arg0)) r i = (f r i : EReal) := by
    rw [hargs c]; exact hf
  exact (final_value hlow hpos hCC hCW hf').trans (tail_value hf hfactor).symm

theorem claim : Cert.Claim :=
  ⟨Cert.Kernel.Gen.facts, Cert.KernelIdeal.Gen.facts, Cert.ReferenceIdeal.Gen.facts, Cert.Pre_finite.Gen.facts,
    frame_kernel, fun m ρ _ => quiet m ρ, fun m ρ _ => quiet m ρ, fun m ρ _ => reference_quiet m ρ, fun m ρ _ => reference_quiet m ρ,
    trivial, results_equal⟩

end Cert.Proof

end
